-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S16384x1 : Shape := ⟨2, ![16384, 1]⟩
abbrev S1x1024x256 : Shape := ⟨3, ![1, 1024, 256]⟩
abbrev S1024 : Shape := ⟨1, ![1024]⟩
abbrev S_ : Shape := ⟨0, ![]⟩

class Facts : Prop where
  bcast_S_S16384x256 : S_.BroadcastsInDim S16384x256 (![] : Fin 0 → Fin S16384x256.rank)
  bcast_S_S1x1024x256 : S_.BroadcastsInDim S1x1024x256 (![] : Fin 0 → Fin S1x1024x256.rank)

variable [Facts]

def fn {F : FTy → Type} [FloatOps F] (main_arg0 : FVec F S16384x256 .f32) (main_arg1 : FVec F S16384x1 .f32) (main_arg2 : FVec F S1x1024x256 .f32) (main_arg3 : FVec F S1024 .f32) : IVec S16384x256 1 × IVec S1x1024x256 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S1x1024x256 .f32 := Host.absf main_arg2
  let main_cst_0 : FVec F S_ .f32 := constant S_ .f32 0x7F800000#32
  let main_v4 : FVec F S1x1024x256 .f32 := broadcastInDim S1x1024x256 ![] bcast_S_S1x1024x256 main_cst_0
  let main_v5 : IVec S1x1024x256 1 := cmpf .olt main_v3 main_v4
  (main_v2, main_v5)
-- ==== Kernel.lean ====
abbrev S16384x256 : Shape := ⟨2, ![16384, 256]⟩
abbrev S16384x1 : Shape := ⟨2, ![16384, 1]⟩
abbrev S1x1024x256 : Shape := ⟨3, ![1, 1024, 256]⟩
abbrev S1024 : Shape := ⟨1, ![1024]⟩
abbrev S1x1024 : Shape := ⟨2, ![1, 1024]⟩
abbrev S1x16384 : Shape := ⟨2, ![1, 16384]⟩
abbrev S16384x1024 : Shape := ⟨2, ![16384, 1024]⟩
abbrev S4096x256 : Shape := ⟨2, ![4096, 256]⟩
abbrev S1x4096 : Shape := ⟨2, ![1, 4096]⟩
abbrev S4096x1024 : Shape := ⟨2, ![4096, 1024]⟩
abbrev S1024x256 : Shape := ⟨2, ![1024, 256]⟩
abbrev S4096 : Shape := ⟨1, ![4096]⟩
abbrev S4096x1 : Shape := ⟨2, ![4096, 1]⟩
abbrev S1x1x1024 : Shape := ⟨3, ![1, 1, 1024]⟩
abbrev S1 : Shape := ⟨1, ![1]⟩
abbrev S1x1x1 : Shape := ⟨3, ![1, 1, 1]⟩
abbrev S1x4096x1024 : Shape := ⟨3, ![1, 4096, 1024]⟩
abbrev S_ : Shape := ⟨0, ![]⟩
abbrev S16384x1x1024 : Shape := ⟨3, ![16384, 1, 1024]⟩

abbrev nBuf : Space → Nat
  | .hbm => 14
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S16384x1, .f32⟩
  | .hbm, ⟨2, _⟩ => ⟨S1x1024x256, .f32⟩
  | .hbm, ⟨3, _⟩ => ⟨S1024, .f32⟩
  | .hbm, ⟨4, _⟩ => ⟨S1x1024, .f32⟩
  | .hbm, ⟨5, _⟩ => ⟨S1x16384, .f32⟩
  | .hbm, ⟨6, _⟩ => ⟨S16384x1024, .i8⟩
  | .hbm, ⟨7, _⟩ => ⟨S1x16384, .f32⟩
  | .hbm, ⟨8, _⟩ => ⟨S16384x1, .f32⟩
  | .hbm, ⟨9, _⟩ => ⟨S_, .i8⟩
  | .hbm, ⟨10, _⟩ => ⟨S16384x1024, .i8⟩
  | .hbm, ⟨11, _⟩ => ⟨S16384x1024, .i1⟩
  | .hbm, ⟨12, _⟩ => ⟨S16384x1024, .i1⟩
  | .hbm, ⟨13, _⟩ => ⟨S16384x1x1024, .i1⟩
  | .local _ .vmem, ⟨0, _⟩ => ⟨S4096x256, .f32⟩
  | .local _ .vmem, ⟨1, _⟩ => ⟨S4096x256, .f32⟩
  | .local _ .vmem, ⟨2, _⟩ => ⟨S1x4096, .f32⟩
  | .local _ .vmem, ⟨3, _⟩ => ⟨S1x4096, .f32⟩
  | .local _ .vmem, ⟨4, _⟩ => ⟨S1x1024x256, .f32⟩
  | .local _ .vmem, ⟨5, _⟩ => ⟨S1x1024, .f32⟩
  | .local _ .vmem, ⟨6, _⟩ => ⟨S4096x1024, .i8⟩
  | .local _ .vmem, ⟨7, _⟩ => ⟨S4096x1024, .i8⟩
  | .local _ .vmem, ⟨8, _⟩ => ⟨S1x4096, .f32⟩
  | .local _ .vmem, ⟨9, _⟩ => ⟨S1x4096, .f32⟩
  | .local _ .vmem, ⟨10, _⟩ => ⟨S1x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x256 : Shape := ⟨2, ![16384, 256]⟩
abbrev S16384x1 : Shape := ⟨2, ![16384, 1]⟩
abbrev S1x1024x256 : Shape := ⟨3, ![1, 1024, 256]⟩
abbrev S1024 : Shape := ⟨1, ![1024]⟩
abbrev S1024x256 : Shape := ⟨2, ![1024, 256]⟩
abbrev S_ : Shape := ⟨0, ![]⟩
abbrev S16384 : Shape := ⟨1, ![16384]⟩
abbrev S1x1024 : Shape := ⟨2, ![1, 1024]⟩
abbrev S256x1024 : Shape := ⟨2, ![256, 1024]⟩
abbrev S16384x1024 : Shape := ⟨2, ![16384, 1024]⟩
abbrev S16384x1x1024 : Shape := ⟨3, ![16384, 1, 1024]⟩
abbrev S1 : Shape := ⟨1, ![1]⟩

abbrev nBuf : Space → Nat
  | .hbm => 58
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1, .f32⟩
  | .hbm, ⟨2, _⟩ => ⟨S1x1024x256, .f32⟩
  | .hbm, ⟨3, _⟩ => ⟨S1024, .f32⟩
  | .hbm, ⟨4, _⟩ => ⟨S1024x256, .f32⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1024x256, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S256x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .i32⟩
  | .hbm, ⟨23, _⟩ => ⟨S_, .f32⟩
  | .hbm, ⟨24, _⟩ => ⟨S_, .i32⟩
  | .hbm, ⟨25, _⟩ => ⟨S16384, .f32⟩
  | .hbm, ⟨26, _⟩ => ⟨S16384, .i32⟩
  | .hbm, ⟨27, _⟩ => ⟨S16384x1, .i32⟩
  | .hbm, ⟨28, _⟩ => ⟨S1x1024, .i32⟩
  | .hbm, ⟨29, _⟩ => ⟨S16384x1024, .i32⟩
  | .hbm, ⟨30, _⟩ => ⟨S16384x1024, .i32⟩
  | .hbm, ⟨31, _⟩ => ⟨S16384x1024, .i1⟩
  | .hbm, ⟨32, _⟩ => ⟨S16384x1x1024, .i1⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1024, .f32⟩
  | .hbm, ⟨46, _⟩ => ⟨S1024, .f32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .i32⟩
  | .hbm, ⟨54, _⟩ => ⟨S16384x1, .i32⟩
  | .hbm, ⟨55, _⟩ => ⟨S16384, .f32⟩
  | .hbm, ⟨56, _⟩ => ⟨S16384x1, .f32⟩
  | .hbm, ⟨57, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_v16 : Ref sig .tc := ⟨.hbm, 31, rfl⟩
abbrev main_v17 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_cst_1 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_v18 : Ref sig .tc := ⟨.hbm, 46, rfl⟩
abbrev main_c : Ref sig .tc := ⟨.hbm, 47, rfl⟩
abbrev main_v19 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.LaunchIdeal.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.VecWindow
public import Idealize.ShloMosaic.Lib.WordCmp
public import Idealize.ShloMosaic.Lib.Claim

/-! The idealised kernel's launch: what its body leaves at each grid point, and the run of the whole program.

The body has two branches.  At the first grid point it fills a scratch row with the anchors' squared norms; later
points read that row.  After its two stores it counts the marks it stored, and when the count is not the number of
rows it stores both results again from the first mark of each row.  The second condition depends on the data, so what
a point leaves is stated with an `if` on it (`left4`, `left5`). -/

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body computes from its blocks -/

/-- Some row of the marks has more than one mark (or none): the count of marks is not the number of rows. -/
def recount (e : IVec S4096x1024 1) : Prop :=
  Scalar.cmpi .ne (Scalar.extui (Scalar.cmpi .ne (extractAt ![0, 0, 0] (k0_pay2 e) inpos_S1x1x1_p0_0_0) 4096#32)) 0#32 = 1#1

instance (e : IVec S4096x1024 1) : Decidable (recount e) := by unfold recount; infer_instance

/-- The marks of a block: where the distance is the row's least, from the points, the anchors and their squared norms. -/
def marks (x0 : Vec F S4096x256 .f32) (x2 : Vec F S1x1024x256 .f32) (a2 : Vec F S1x1024 .f32) : IVec S4096x1024 1 :=
  k0_pay7 x0 x2 a2

/-- What the body leaves in the mask's block. -/
def left4 (x0 : Vec F S4096x256 .f32) (x2 : Vec F S1x1024x256 .f32) (a2 : Vec F S1x1024 .f32) : Vec F S4096x1024 .i8 :=
  if recount (marks x0 x2 a2) then k0_pay4 (marks x0 x2 a2) else k0_pay9 x0 x2 a2

/-- What the body leaves in the log-probability's block. -/
def left5 (x0 : Vec F S4096x256 .f32) (x1 : Vec F S1x4096 .f32) (x2 : Vec F S1x1024x256 .f32) (x3 : Vec F S1x1024 .f32)
    (a2 : Vec F S1x1024 .f32) : Vec F S1x4096 .f32 :=
  if recount (marks x0 x2 a2) then k0_pay5 (marks x0 x2 a2) (k0_pay8 x3) x1
  else k0_pay1 (marks x0 x2 a2) (k0_pay8 x3) x1

/-- The body's first condition: the grid point is the first. -/
abbrev atFirst (i : grid0.Coords) : Prop :=
  Scalar.cmpi .ne (Scalar.extui (Scalar.cmpi .eq (BitVec.ofNat 32 (i 0).val) 0#32)) 0#32 = 1#1

/-- What a buffer reads after a store of the whole of it, stored over once more in full where `p` holds. -/
theorem read_stored {s : Shape} {e : EltTy} (v : View sig .tc .vmem s e) (f : v.ty.Contents (Elt F)) (p : Prop) [Decidable p]
    {off off' off'' : Fin s.rank → ℕ} (inb : ∀ a, off a + s.size a ≤ s.size a) (inb' : ∀ a, off' a + s.size a ≤ s.size a)
    (inb'' : ∀ a, off'' a + s.size a ≤ s.size a) (w w' : Vec F s e) :
    v.read (Elt F) (if _ : p then v.writes (Elt F) f [⟨Rect.unit off s.size inb, w⟩, ⟨Rect.unit off' s.size inb', w'⟩]
      else v.writes (Elt F) f [⟨Rect.unit off'' s.size inb'', w'⟩]) = if p then w else w' := by
  split_ifs
  · exact View.read_writes_full v f inb w _
  · exact View.read_writes_full v f inb'' w' _

/-! ## The body's run -/

/-- At the first grid point: on whole staging memrefs, the inputs' at their contents and the rest at anything, the body
    leaves the scratch at the anchors' squared norms and the results at `left4` and `left5` of them. -/
theorem body_first (c : Dev nD) (i : grid0.Coords) (arg1 : Memref sig .tc .vmem S4096x256 .f32) (harg1 : arg1.IsWhole) (arg2 : Memref sig .tc .vmem S1x4096 .f32) (harg2 : arg2.IsWhole) (arg3 : Memref sig .tc .vmem S1x1024x256 .f32) (harg3 : arg3.IsWhole) (arg4 : Memref sig .tc .vmem S1x1024 .f32) (harg4 : arg4.IsWhole) (arg5 : Memref sig .tc .vmem S4096x1024 .i8) (harg5 : arg5.IsWhole) (arg6 : Memref sig .tc .vmem S1x4096 .f32) (harg6 : arg6.IsWhole) (arg7 : Memref sig .tc .vmem S1x1024 .f32) (harg7 : arg7.IsWhole)
    (hc0 : atFirst i) (x0 : Vec F S4096x256 .f32) (x1 : Vec F S1x4096 .f32) (x2 : Vec F S1x1024x256 .f32) (x3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (left4 x0 x2 (k0_pay6 x2)) ∗ owns (c : Thread nD τ) arg6 fullShare (left5 x0 x1 x2 x3 (k0_pay6 x2)) ∗ owns (c : Thread nD τ) arg7 fullShare (k0_pay6 x2)) -∗ K ⟨⟩))
      ⊢ wp frame (wpE (defs₀ (F := F)) Variants.none c none) E (cc0__vq_block i arg1 harg1 arg2 harg2 arg3 harg3 arg4 harg4 arg5 harg5 arg6 harg6 arg7 harg7) K := by
  simp only [cc0__vq_block_eq_skeleton]; unfold cc0__vq_block_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg1.eq_unread hf0; obtain rfl := harg2.eq_unread hf1; obtain rfl := harg3.eq_unread hf2; obtain rfl := harg4.eq_unread hf3
  have e0 : View.readAt (Elt F) arg1.view (Rect.unit ![0, 0] S4096x256.size inb_S4096x256_S4096x256_0_0).toLoadRect (harg1.unread x0) = x0 :=
    (View.readAt_full _ _ _).trans hf0
  have e1 : View.readAt (Elt F) arg2.view (Rect.unit ![0, 0] S1x4096.size inb_S1x4096_S1x4096_0_0).toLoadRect (harg2.unread x1) = x1 :=
    (View.readAt_full _ _ _).trans hf1
  have e2 : View.readAt (Elt F) arg3.view (Rect.unit ![0, 0, 0] S1x1024x256.size inb_S1x1024x256_S1x1024x256_0_0_0).toLoadRect (harg3.unread x2) = x2 :=
    (View.readAt_full _ _ _).trans hf2
  have e3 : View.readAt (Elt F) arg4.view (Rect.unit ![0, 0] S1x1024.size inb_S1x1024_S1x1024_0_0).toLoadRect (harg4.unread x3) = x3 :=
    (View.readAt_full _ _ _).trans hf3
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    delta body_first.sl.r body_first.sl.r_1 body_first.sl.H4_1 body_first.sl.v12 body_first.sl.HS0_1
    refine (read_stored arg5.view _ _ _ _ _ _ _).trans ?_
    rw [View.readCov_full arg7.view inb_S1x1024_S1x1024_0_0 inb_S1x1024_S1x1024_0_0]
    unfold left4
    by_cases h : recount (marks x0 x2 (k0_pay6 x2))
    · rw [if_pos h]; exact if_pos h
    · rw [if_neg h]; exact if_neg h
  isplitl [H5]
  · iexists _; isplitr; swap; · iexact H5
    ipureintro
    delta body_first.sl.r body_first.sl.r_1 body_first.sl.H5_1 body_first.sl.v12 body_first.sl.HS0_1
    refine (read_stored arg6.view _ _ _ _ _ _ _).trans ?_
    rw [View.readCov_full arg7.view inb_S1x1024_S1x1024_0_0 inb_S1x1024_S1x1024_0_0]
    unfold left5
    by_cases h : recount (marks x0 x2 (k0_pay6 x2))
    · rw [if_pos h]; exact if_pos h
    · rw [if_neg h]; exact if_neg h
  iexists _; isplitr; swap; · iexact HS0
  ipureintro
  delta body_first.sl.HS0_1
  exact View.read_writes_full arg7.view _ _ _ _

/-- At a later grid point, the scratch holding the row `xs`: on whole staging memrefs, the inputs' and the scratch at their contents and the results' at anything, the body
    leaves the results at `left4` and `left5` of that row, and the row as it was. -/
theorem body_later (c : Dev nD) (i : grid0.Coords) (arg1 : Memref sig .tc .vmem S4096x256 .f32) (harg1 : arg1.IsWhole) (arg2 : Memref sig .tc .vmem S1x4096 .f32) (harg2 : arg2.IsWhole) (arg3 : Memref sig .tc .vmem S1x1024x256 .f32) (harg3 : arg3.IsWhole) (arg4 : Memref sig .tc .vmem S1x1024 .f32) (harg4 : arg4.IsWhole) (arg5 : Memref sig .tc .vmem S4096x1024 .i8) (harg5 : arg5.IsWhole) (arg6 : Memref sig .tc .vmem S1x4096 .f32) (harg6 : arg6.IsWhole) (arg7 : Memref sig .tc .vmem S1x1024 .f32) (harg7 : arg7.IsWhole)
    (hc0 : ¬atFirst i) (x0 : Vec F S4096x256 .f32) (x1 : Vec F S1x4096 .f32) (x2 : Vec F S1x1024x256 .f32) (x3 : Vec F S1x1024 .f32) (xs : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (left4 x0 x2 xs) ∗ owns (c : Thread nD τ) arg6 fullShare (left5 x0 x1 x2 x3 xs) ∗ owns (c : Thread nD τ) arg7 fullShare xs) -∗ K ⟨⟩))
      ⊢ wp frame (wpE (defs₀ (F := F)) Variants.none c none) E (cc0__vq_block i arg1 harg1 arg2 harg2 arg3 harg3 arg4 harg4 arg5 harg5 arg6 harg6 arg7 harg7) K := by
  simp only [cc0__vq_block_eq_skeleton]; unfold cc0__vq_block_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS0⟩, Hk⟩
  obtain rfl := harg1.eq_unread hf0; obtain rfl := harg2.eq_unread hf1; obtain rfl := harg3.eq_unread hf2; obtain rfl := harg4.eq_unread hf3; obtain rfl := harg7.eq_unread hfs
  have e0 : View.readAt (Elt F) arg1.view (Rect.unit ![0, 0] S4096x256.size inb_S4096x256_S4096x256_0_0).toLoadRect (harg1.unread x0) = x0 :=
    (View.readAt_full _ _ _).trans hf0
  have e1 : View.readAt (Elt F) arg2.view (Rect.unit ![0, 0] S1x4096.size inb_S1x4096_S1x4096_0_0).toLoadRect (harg2.unread x1) = x1 :=
    (View.readAt_full _ _ _).trans hf1
  have e2 : View.readAt (Elt F) arg3.view (Rect.unit ![0, 0, 0] S1x1024x256.size inb_S1x1024x256_S1x1024x256_0_0_0).toLoadRect (harg3.unread x2) = x2 :=
    (View.readAt_full _ _ _).trans hf2
  have e3 : View.readAt (Elt F) arg4.view (Rect.unit ![0, 0] S1x1024.size inb_S1x1024_S1x1024_0_0).toLoadRect (harg4.unread x3) = x3 :=
    (View.readAt_full _ _ _).trans hf3
  have e7 : View.readAt (Elt F) arg7.view (Rect.unit ![0, 0] S1x1024.size inb_S1x1024_S1x1024_0_0).toLoadRect (harg7.unread xs) = xs :=
    (View.readAt_full _ _ _).trans hfs
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    refine (read_stored arg5.view _ _ _ _ _ _ _).trans ?_
    unfold left4
    by_cases h : recount (marks x0 x2 xs)
    · rw [if_pos h]; exact if_pos h
    · rw [if_neg h]; exact if_neg h
  isplitl [H5]
  · iexists _; isplitr; swap; · iexact H5
    ipureintro
    refine (read_stored arg6.view _ _ _ _ _ _ _).trans ?_
    unfold left5
    by_cases h : recount (marks x0 x2 xs)
    · rw [if_pos h]; exact if_pos h
    · rw [if_neg h]; exact if_neg h
  iexists _; isplitr; swap; · iexact HS0
  ipureintro
  exact hfs

variable (m : (ℓ : Loc nD τ sig) → Buf (Elt F) ℓ) (ρ : Dev nD → PrngReg)

/-! ## The grid points and the scratch row -/

/-- The body's first condition holds at the first point and at no other. -/
theorem atFirst_iff (t : Fin cfg0.N) : atFirst (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    have e1 : t.val = 0 ↔ t.val % 4 = 0 := by omega
    rw [e1]
    simp only [atFirst, e0]
    word_cmp
   : ∀ t : Fin grid0.N, atFirst (grid0.coords t) ↔ t.val = 0) t

/-- The anchors' block is the same at every point. -/
theorem anchors_const (c : Dev nD) (t t' : Fin cfg0.N) : iblk m c 2 t = iblk m c 2 t' := rfl

/-- The row of the anchors' squared norms. -/
def norms (c : Dev nD) : Vec F S1x1024 .f32 := k0_pay6 (iblk m c 2 ⟨0, lt_of_lt_of_eq (by decide : 0 < 4) N_0.symm⟩)

/-- The scratch row as the body is passed it. -/
abbrev row : Memref sig .tc .vmem S1x1024 .f32 := Memref.whole cc0_scratch0

/-- What the launch hands the region: the scratch row at anything, and the generator's register. -/
theorem handed_eq (c : Dev nD) :
    (Pipeline.ΦA spec0 c : sProp 𝕄) = iprop((∃ d, owns (c : Thread nD τ) row fullShare d) ∗ (∃ r, prngReg c r)) := by
  unfold Pipeline.ΦA; rw [scopedRest0_eq]; simp only [row, owns_whole]; try rfl

/-- The invariant before point `n`: at first what the launch hands over, afterwards the scratch row at the anchors'
    squared norms. -/
def inv (c : Dev nD) : ℕ → sProp 𝕄
  | 0 => Pipeline.ΦA spec0 c
  | _ + 1 => iprop(owns (c : Thread nD τ) row fullShare (norms m c) ∗ (∃ r, prngReg c r))

/-! ## The pipeline's proof data -/

/-- The arrays as the region finds them; after the body each input's buffer at its block and the results' at
    `left4`, `left5`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left4 (iblk m c 0 t) (iblk m c 2 t) (norms m c)
    | ⟨5, _⟩ => left5 (iblk m c 0 t) (iblk m c 1 t) (iblk m c 2 t) (iblk m c 3 t) (norms m c)
  Φ t := inv m c t.val
  q _ := fullShare
  owed _ := 0

/-- The arrays are as the region finds them; -/
theorem A_eq (c : Dev nD) (w : Fin cfg0.W) : (dats m 0 c).A w = V m c (Pipeline.arrRef spec0 w) := by
  dsimp only [dats]

/-- after the body the points' buffer holds its block, -/
theorem after0 (c : Dev nD) (t : Fin cfg0.N) : (dats m 0 c).after 0 t = iblk m c 0 t := by dsimp only [dats]
/-- the log-probabilities' its, -/
theorem after1 (c : Dev nD) (t : Fin cfg0.N) : (dats m 0 c).after 1 t = iblk m c 1 t := by dsimp only [dats]
/-- the anchors' its, -/
theorem after2 (c : Dev nD) (t : Fin cfg0.N) : (dats m 0 c).after 2 t = iblk m c 2 t := by dsimp only [dats]
/-- the logits' its, -/
theorem after3 (c : Dev nD) (t : Fin cfg0.N) : (dats m 0 c).after 3 t = iblk m c 3 t := by dsimp only [dats]
/-- the mask's what the body leaves there, -/
theorem after4 (c : Dev nD) (t : Fin cfg0.N) :
    (dats m 0 c).after 4 t = left4 (iblk m c 0 t) (iblk m c 2 t) (norms m c) := by dsimp only [dats]
/-- and the log-probabilities' result's likewise. -/
theorem after5 (c : Dev nD) (t : Fin cfg0.N) :
    (dats m 0 c).after 5 t = left5 (iblk m c 0 t) (iblk m c 1 t) (iblk m c 2 t) (iblk m c 3 t) (norms m c) := by dsimp only [dats]

/-- Each input's staging buffer holds its block when the body starts. -/
theorem before0 (c : Dev nD) (t : Fin cfg0.N) (d) : (dats m 0 c).before 0 t d = iblk m c 0 t :=
  before0_0_of m (dats m 0 c) (A_eq m c 0) (after0 m c) t d
/-- The log-probabilities' buffer likewise, -/
theorem before1 (c : Dev nD) (t : Fin cfg0.N) (d) : (dats m 0 c).before 1 t d = iblk m c 1 t :=
  before0_1_of m (dats m 0 c) (A_eq m c 1) (after1 m c) t d
/-- the anchors', -/
theorem before2 (c : Dev nD) (t : Fin cfg0.N) (d) : (dats m 0 c).before 2 t d = iblk m c 2 t :=
  before0_2_of m (dats m 0 c) (A_eq m c 2) (after2 m c) t d
/-- and the logits'. -/
theorem before3 (c : Dev nD) (t : Fin cfg0.N) (d) : (dats m 0 c).before 3 t d = iblk m c 3 t :=
  before0_3_of m (dats m 0 c) (A_eq m c 3) (after3 m c) t d

/-! ## The obligation at every point -/

/-- What the body starts from at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it ends at. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point takes the one to the other: at the first by `body_first`, later by `body_later`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4, after5,
    show (dats m 0 c).Φ t.succ = iprop(owns (c : Thread nD τ) row fullShare (norms m c) ∗ (∃ r, prngReg c r)) from rfl,
    show (dats m 0 c).Φ t.castSucc = inv m c t.val from rfl]
  by_cases hz : t.val = 0
  · rw [show inv m c t.val = Pipeline.ΦA spec0 c by rw [hz]; rfl, handed_eq]
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ (Memref.isWhole_whole _) ((atFirst_iff t).mpr hz)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show inv m c t.val = iprop(owns (c : Thread nD τ) row fullShare (norms m c) ∗ (∃ r, prngReg c r)) by
      obtain ⟨k, hk⟩ := Nat.exists_eq_succ_of_ne_zero hz; rw [hk]; rfl]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ (Memref.isWhole_whole _) (fun h => hz ((atFirst_iff t).mp h))
      (iblk m c 0 t) (iblk m c 1 t) (iblk m c 2 t) (iblk m c 3 t) (norms m c) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body the pipeline calls is the kernel's at the point's buffers. -/
theorem body_row (t : Fin cfg0.N) :
    defs₀ (F := F) .tc cfg0.body (cfg0.bodyArgs t (cfg0.slots t)) = bodyAt0 t := by
  unfold defs₀; rw [Defs.onTc_tc]

/-- So every point meets its obligation, -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- the launch hands over what the first point needs, -/
theorem hin (c : Dev nD) : Pipeline.ΦA spec0 c ⊢ (dats m 0 c).Φ 0 := by
  rw [show (dats m 0 c).Φ 0 = Pipeline.ΦA spec0 c from rfl]

/-- and the last point leaves what the launch takes back. -/
theorem hout (c : Dev nD) : (dats m 0 c).Φ (Fin.last cfg0.N) ⊢ Pipeline.ΦA spec0 c := by
  rw [show (dats m 0 c).Φ (Fin.last cfg0.N) = inv m c cfg0.N from rfl,
    show inv m c cfg0.N = iprop(owns (c : Thread nD τ) row fullShare (norms m c) ∗ (∃ r, prngReg c r)) by
      rw [show cfg0.N = 3 + 1 from N_0]; rfl, handed_eq]
  iintro ⟨HS, Hg⟩
  isplitl [HS]
  · iexists _; iexact HS
  iexact Hg

/-! ## The run -/

-- the launch's implicit arguments are found by unifying its conclusion with this one, which takes unfolding plain
-- definitions in a metavariable's type
set_option backward.isDefEq.respectTransparency.types false in
set_option maxHeartbeats 800000 in
/-- From any memory with zero counters the program ends, its arrays at what the proof data leave, every other buffer as
    the lines after the region leave it, and every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Vq
-- ==== Proof.Plain.lean ====
module

public import Idealize.ShloMosaic.PureOps
public import Idealize.ShloMosaic.PureOps.Ideal.Laws
public import Idealize.ShloMosaic.Lib.ValueIdxCore

/-! The mathematics both programs are compared with, on rows of extended reals: the first least entry of a row, the
log-softmax of a row, and the one fact about finite numbers the distances need. -/

@[expose] public section

noncomputable section

open scoped BigOperators

namespace Cert.Vq

open Idealize.ShloMosaic

/-! ## The first least entry -/

/-- `k` is the first index at which `f` is least. -/
def FirstLeast {n : ℕ} (f : Fin n → EReal) (k : Fin n) : Prop :=
  (∀ j, f k ≤ f j) ∧ ∀ j, j < k → f k < f j

/-- A nonempty row has a first least entry. -/
theorem exists_firstLeast {n : ℕ} [NeZero n] (f : Fin n → EReal) : ∃ k, FirstLeast f k := by
  obtain ⟨m, -, hm⟩ := Finset.exists_min_image Finset.univ f Finset.univ_nonempty
  have hne : (Finset.univ.filter fun k => ∀ j, f k ≤ f j).Nonempty :=
    ⟨m, by simpa using fun j => hm j (Finset.mem_univ j)⟩
  have hmem := Finset.min'_mem _ hne
  refine ⟨Finset.min' _ hne, (Finset.mem_filter.1 hmem).2, fun j hj => ?_⟩
  by_contra hlt
  have hle : f j ≤ f (Finset.min' _ hne) := not_lt.1 hlt
  have : j ∈ Finset.univ.filter fun k => ∀ j, f k ≤ f j :=
    Finset.mem_filter.2 ⟨Finset.mem_univ _, fun i => hle.trans ((Finset.mem_filter.1 hmem).2 i)⟩
  exact absurd (Finset.min'_le _ j this) (not_le.2 hj)

/-- The first least entry is unique. -/
theorem FirstLeast.unique {n : ℕ} {f : Fin n → EReal} {k k' : Fin n} (h : FirstLeast f k) (h' : FirstLeast f k') : k = k' := by
  rcases lt_trichotomy k k' with hlt | he | hlt
  · exact absurd (h'.2 k hlt) (not_lt.2 (h.1 k'))
  · exact he
  · exact absurd (h.2 k' hlt) (not_lt.2 (h'.1 k))

/-! ## Selecting folds -/

/-- A left fold by an operation that returns one of its two arguments, the one that comes before both in a preorder,
    returns the start or a member of the list, and it comes before all of them. -/
theorem foldl_select {α : Type} (f : α → α → α) (R : α → α → Prop) (hrefl : ∀ a, R a a)
    (htrans : ∀ a b c, R a b → R b c → R a c) (hf : ∀ a b, (f a b = a ∨ f a b = b) ∧ R (f a b) a ∧ R (f a b) b) :
    ∀ (l : List α) (a : α), (l.foldl f a = a ∨ l.foldl f a ∈ l) ∧ R (l.foldl f a) a ∧ ∀ b ∈ l, R (l.foldl f a) b
  | [], a => ⟨.inl rfl, hrefl a, fun _ h => absurd h List.not_mem_nil⟩
  | x :: l, a => by
    obtain ⟨h1, h2, h3⟩ := foldl_select f R hrefl htrans hf l (f a x)
    obtain ⟨g1, g2, g3⟩ := hf a x
    rw [List.foldl_cons]
    refine ⟨?_, htrans _ _ _ h2 g2, fun b hb => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.1 hb with rfl | hb
      · exact htrans _ _ _ h2 g3
      · exact h3 b hb

/-- The fold of `min` from `⊤` over a row equals an entry exactly when that entry is least. -/
theorem eq_fold_min_iff {n : ℕ} (f : Fin n → EReal) (k : Fin n) :
    f k = Finset.univ.fold min ⊤ f ↔ ∀ j, f k ≤ f j := by
  constructor
  · intro h j
    rw [h]
    exact ((Finset.le_fold_min _).1 le_rfl).2 j (Finset.mem_univ j)
  · intro h
    refine le_antisymm ((Finset.le_fold_min _).2 ⟨le_top, fun j _ => h j⟩) ?_
    exact ((Finset.le_fold_min _).1 le_rfl).2 k (Finset.mem_univ k)

/-- The same for integers, from a bound above every entry. -/
theorem eq_fold_min_int_iff {n : ℕ} (f : Fin n → ℤ) (b z : ℤ) (hb : ∃ j, f j ≤ b) :
    z = Finset.univ.fold min b f ↔ (∃ j, f j = z) ∧ ∀ j, z ≤ f j := by
  constructor
  · intro h
    have hle : ∀ j, z ≤ f j := fun j => by
      rw [h]; exact ((Finset.le_fold_min _).1 le_rfl).2 j (Finset.mem_univ j)
    refine ⟨?_, hle⟩
    rcases (Finset.fold_min_le z).1 h.ge with h' | ⟨j, -, hj⟩
    · obtain ⟨j, hj⟩ := hb
      exact ⟨j, le_antisymm (hj.trans h') (hle j)⟩
    · exact ⟨j, le_antisymm hj (hle j)⟩
  · rintro ⟨⟨i, rfl⟩, h⟩
    obtain ⟨j, hj⟩ := hb
    refine le_antisymm ((Finset.le_fold_min _).2 ⟨(h j).trans hj, fun j _ => h j⟩) ?_
    exact ((Finset.le_fold_min _).1 le_rfl).2 i (Finset.mem_univ i)

/-! ## Rows of marks -/

/-- Rows that each have a mark and have as many marks in all as there are rows have one mark each. -/
theorem one_mark {R n : ℕ} (e : Fin R → Fin n → BitVec 1) (hex : ∀ r, ∃ k, e r k = 1#1)
    (hsum : ∑ r, ∑ k, (e r k).toNat = R) (r : Fin R) (k k' : Fin n) (hk : e r k = 1#1) (hk' : e r k' = 1#1) : k = k' := by
  have hle : ∀ r ∈ (Finset.univ : Finset (Fin R)), 1 ≤ ∑ k, (e r k).toNat := fun r _ => by
    obtain ⟨k, hk⟩ := hex r
    have := Finset.single_le_sum (f := fun k => (e r k).toNat) (fun _ _ => Nat.zero_le _) (Finset.mem_univ k)
    simp only [hk] at this
    exact this
  have hone : (∑ _r : Fin R, 1) = ∑ r, ∑ k, (e r k).toNat := by rw [hsum]; simp
  have h1 : 1 = ∑ k, (e r k).toNat := (Finset.sum_eq_sum_iff_of_le hle).1 hone r (Finset.mem_univ r)
  by_contra hne
  have h2 : (e r k).toNat + (e r k').toNat ≤ ∑ k, (e r k).toNat := by
    rw [← Finset.sum_pair (f := fun k => (e r k).toNat) hne]
    exact Finset.sum_le_sum_of_subset (Finset.subset_univ _)
  rw [hk, hk', ← h1] at h2
  exact absurd h2 (by decide)

/-- The sum of one entry kept where a condition holds at one index only. -/
theorem sum_only {n : ℕ} (f : Fin n → EReal) (c : Fin n → BitVec 1) (k : Fin n) (hc : ∀ j, c j = 1#1 ↔ j = k) :
    ∑ j, Scalar.select (c j) (f j) (0 : EReal) = f k := by
  rw [Finset.sum_eq_single k]
  · rw [(hc k).2 rfl]; rfl
  · intro j _ hj
    rw [ValueIdx.eq_zero_of_ne_one fun h => hj ((hc j).1 h)]; rfl
  · intro h; exact absurd (Finset.mem_univ k) h

/-! ## The log-softmax of a row -/

/-- The log-softmax of a row: each entry less the greatest, less the logarithm of the exponentials' sum. -/
def logSoft {n : ℕ} (l : Fin n → EReal) (k : Fin n) : EReal :=
  (l k - ⨆ j, l j) - Ideal.log (∑ j, Ideal.exp (l j - ⨆ i, l i))

/-! ## Distances -/

/-- The squared distance of a point and an anchor, as the reference writes it. -/
def dist {n : ℕ} (x a : Fin n → EReal) : EReal :=
  (∑ d, x d * x d + ∑ d, a d * a d) - 2 * ∑ d, x d * a d

/-- The same as the kernel writes it: the point is scaled by -2 before the product. -/
def near {n : ℕ} (x a : Fin n → EReal) : EReal :=
  (∑ d, x d * x d + ∑ d, a d * a d) + ∑ d, x d * (-2) * a d

/-- A sum of finite numbers, as a real. -/
theorem coe_sum {n : ℕ} (f : Fin n → ℝ) : ∑ d, (f d : EReal) = ((∑ d, f d : ℝ) : EReal) := by
  have h : ∀ s : Finset (Fin n), ∑ d ∈ s, (f d : EReal) = ((∑ d ∈ s, f d : ℝ) : EReal) := fun s => by
    induction s using Finset.cons_induction with
    | empty => simp
    | cons a s ha ih => rw [Finset.sum_cons, Finset.sum_cons, ih, EReal.coe_add]
  exact h _

/-- Of a finite point and a finite anchor the two are equal. -/
theorem near_eq_dist {n : ℕ} (x a : Fin n → EReal) (hx : ∀ d, x d ≠ ⊤ ∧ x d ≠ ⊥) (ha : ∀ d, a d ≠ ⊤ ∧ a d ≠ ⊥) :
    near x a = dist x a := by
  obtain ⟨x', rfl⟩ : ∃ x' : Fin n → ℝ, x = fun d => (x' d : EReal) :=
    ⟨fun d => (x d).toReal, funext fun d => (EReal.coe_toReal (hx d).1 (hx d).2).symm⟩
  obtain ⟨a', rfl⟩ : ∃ a' : Fin n → ℝ, a = fun d => (a' d : EReal) :=
    ⟨fun d => (a d).toReal, funext fun d => (EReal.coe_toReal (ha d).1 (ha d).2).symm⟩
  have h2 : (2 : EReal) = ((2 : ℝ) : EReal) := rfl
  unfold near dist
  rw [sub_eq_add_neg]
  congr 1
  have e1 : ∀ d, (x' d : EReal) * (-2) * (a' d : EReal) = ((x' d * (-2) * a' d : ℝ) : EReal) := fun d => by
    rw [EReal.coe_mul, EReal.coe_mul, EReal.coe_neg, h2]
  have e2 : ∀ d, (x' d : EReal) * (a' d : EReal) = ((x' d * a' d : ℝ) : EReal) := fun d => (EReal.coe_mul _ _).symm
  rw [Finset.sum_congr rfl fun d _ => e1 d, Finset.sum_congr rfl fun d _ => e2 d, coe_sum, coe_sum, h2, ← EReal.coe_mul,
    ← EReal.coe_neg]
  congr 1
  rw [Finset.mul_sum, ← Finset.sum_neg_distrib]
  exact Finset.sum_congr rfl fun d _ => by ring

end Cert.Vq
-- ==== Proof.Block.lean ====
module

public import proofs.«01_k».proof.Proof.LaunchIdeal
public import proofs.«01_k».proof.Proof.Plain
public import Idealize.ShloMosaic.Lib.ValueIdx
public import Idealize.ShloMosaic.Lib.ValueLayout
public import Idealize.ShloMosaic.Lib.ValueLayoutCasts
public import Idealize.ShloMosaic.Lib.WordSum
public import Idealize.ShloMosaic.Lib.Pipeline.Value

/-! What the kernel's body computes from one block, at an index, over the extended reals: the marks are where the
distance is the row's least; whichever way the count of the marks goes, the mask's block has one mark in each row, at
the first least distance, and the log-probability's block is less the log-softmax at that index. -/

@[expose] public section

set_option maxRecDepth 16384

noncomputable section

open scoped BigOperators

namespace Cert.KernelIdeal.Vq

open Idealize.ShloMosaic Idealize.ShloMosaic.ValueIdx
open Cert.KernelIdeal Cert.KernelIdeal.Gen Cert.Vq

/-! ## The words of the constants -/

/-- The word of minus two; -/
theorem negTwo : Ideal.ofBits .f32 0xC0000000#32 = -2 := by
  simp only [Ideal.ofBits, Ideal.ieee]
  simp
  rw [← EReal.coe_mul, show (8388608 * (2 ^ 22)⁻¹ : ℝ) = 2 by norm_num]; rfl
/-- of plus infinity; -/
theorem posInf : Ideal.ofBits .f32 0x7F800000#32 = ⊤ := by simp [Ideal.ofBits, Ideal.ieee]
/-- of minus infinity. -/
theorem negInf : Ideal.ofBits .f32 0xFF800000#32 = ⊥ := by simp [Ideal.ofBits, Ideal.ieee]

/-! ## Layouts at an index -/

/-- A column spread over the lanes reads its row; -/
theorem col_apply {α : Type} (x : S4096.Idx → α) (r : Fin 4096) (k : Fin 1024) :
    broadcastTo S4096x1024 (shapeCast S4096x1 x shapeCasts_S4096_S4096x1) broadcasts_S4096x1_S4096x1024 (ix2 r k) = x (ix1 r) := by
  refine (broadcastTo_apply _ _ (ix2 r k) (ix2 r (0 : Fin 1)) ?_).trans ?_
  · intro a; fin_cases a <;> rfl
  · exact shapeCast_apply _ _ _ _ (by rw [Shape.rowMajor_val_two, Shape.rowMajor_val_one]; show r.val = r.val * 1 + 0; omega)

/-- a row spread over the rows reads its lane; -/
theorem row_apply {α : Type} (x : S1x1024.Idx → α) (r : Fin 4096) (k : Fin 1024) :
    broadcastTo S4096x1024 x broadcasts_S1x1024_S4096x1024 (ix2 r k) = x (ix2 (0 : Fin 1) k) := by
  refine broadcastTo_apply _ _ (ix2 r k) (ix2 (0 : Fin 1) k) ?_
  intro a; fin_cases a <;> rfl

/-- the anchors as a matrix read the anchors. -/
theorem anchors_apply {α : Type} (x : S1x1024x256.Idx → α) (k : Fin 1024) (d : Fin 256) :
    shapeCast S1024x256 x shapeCasts_S1x1024x256_S1024x256 (ix2 k d) = x (ix3 (0 : Fin 1) k d) :=
  shapeCast_apply _ _ _ _ (by
    rw [Shape.rowMajor_val_two, Shape.rowMajor_val_three]; show (0 * 1024 + k.val) * 256 + d.val = k.val * 256 + d.val; omega)

/-- The element of a row that a sum along the lanes takes, of the distances; -/
theorem lift_apply (r : Fin 4096) (k : Fin 1024) : reduces_S4096x1024_S4096.lift (ix1 r) k = ix2 r k := by
  funext c; fin_cases c <;> rfl

/-- of the points; -/
theorem lift_apply_x (r : Fin 4096) (d : Fin 256) : reduces_S4096x256_S4096.lift (ix1 r) d = ix2 r d := by
  funext c; fin_cases c <;> rfl

/-- of the anchors. -/
theorem lift_apply_a (k : Fin 1024) (d : Fin 256) : reduces_S1024x256_S1024.lift (ix1 k) d = ix2 k d := by
  funext c; fin_cases c <;> rfl

/-! ## The anchors' squared norms -/

/-- The scratch row at an anchor: its squared norm. -/
theorem norms_apply (x2 : Vec Ideal S1x1024x256 .f32) (k : Fin 1024) :
    k0_pay6 x2 (ix2 (0 : Fin 1) k) = ∑ d : Fin 256, x2 (ix3 (0 : Fin 1) k d) * x2 (ix3 (0 : Fin 1) k d) := by
  unfold k0_pay6
  dsimp only
  rw [shapeCast_self]
  refine (shapeCast_apply _ _ _ (ix1 k) ?_).trans ?_
  · rw [Shape.rowMajor_val_two, Shape.rowMajor_val_one]; show k.val = 0 * 1024 + k.val; omega
  refine (Ideal.multiReduction_add_single _ _ _ _ _ _).trans (Finset.sum_congr rfl fun d _ => ?_)
  show shapeCast S1024x256 x2 _ (reduces_S1024x256_S1024.lift (ix1 k) d) * shapeCast S1024x256 x2 _ (reduces_S1024x256_S1024.lift (ix1 k) d) = _
  exact congrArg (fun z : EReal => z * z) ((congrArg (shapeCast S1024x256 x2 shapeCasts_S1x1024x256_S1024x256) (lift_apply_a k d)).trans (anchors_apply x2 k d))

/-! ## The marks -/

/-- The distances of the points of a block to the anchors, with the anchors' norms `a2`. -/
def dist0 (x0 : Vec Ideal S4096x256 .f32) (x2 : Vec Ideal S1x1024x256 .f32) (a2 : Vec Ideal S1x1024 .f32) (r : Fin 4096)
    (k : Fin 1024) : EReal :=
  (∑ d : Fin 256, x0 (ix2 r d) * x0 (ix2 r d) + a2 (ix2 (0 : Fin 1) k))
    + ∑ d : Fin 256, x0 (ix2 r d) * (-2) * x2 (ix3 (0 : Fin 1) k d)

/-- The product of a block's scaled points and the anchors. -/
theorem prod_apply (l : FVec Ideal S4096x256 .f32) (x2 : Vec Ideal S1x1024x256 .f32) (r : Fin 4096) (k : Fin 1024) :
    matmul (φ₁ := .f32) (φ₂ := .f32) dot_S4096x256_S1024x256_S4096x1024_1_1_0_0_n_n none l
      (shapeCast S1024x256 x2 shapeCasts_S1x1024x256_S1024x256 : FVec Ideal S1024x256 .f32) (constant S4096x1024 .f32 0x00000000#32) (ix2 r k)
      = ∑ d : Fin 256, l (ix2 r d) * x2 (ix3 (0 : Fin 1) k d) := by
  refine (Ideal.matmul_constant_zero_apply dot_S4096x256_S1024x256_S4096x1024_1_1_0_0_n_n none l _ (ix2 r k)).trans ?_
  refine Fintype.sum_equiv (contrEquiv1 dot_S4096x256_S1024x256_S4096x1024_1_1_0_0_n_n 256 rfl rfl) _ _ fun q => ?_
  refine congrArg₂ (fun a b : EReal => a * b) (congrArg l ?_) ?_
  · funext c; fin_cases c <;> rfl
  · refine Eq.trans (congrArg (shapeCast S1024x256 x2 shapeCasts_S1x1024x256_S1024x256) ?_) (anchors_apply x2 k _)
    funext c; fin_cases c <;> rfl

/-- The distances as the body forms them. -/
def distMat (x0 : FVec Ideal S4096x256 .f32) (x2 : FVec Ideal S1x1024x256 .f32) (a2 : FVec Ideal S1x1024 .f32) :
    FVec Ideal S4096x1024 .f32 :=
  addf (addf
      (broadcastTo S4096x1024 (shapeCast S4096x1 (multiReduction .add [1] S4096 (mulf x0 x0) 0x00000000#32 reduces_S4096x256_S4096 (.inl rfl) rfl)
        shapeCasts_S4096_S4096x1) broadcasts_S4096x1_S4096x1024)
      (broadcastTo S4096x1024 a2 broadcasts_S1x1024_S4096x1024))
    (matmul (φ₁ := .f32) (φ₂ := .f32) dot_S4096x256_S1024x256_S4096x1024_1_1_0_0_n_n none
      (mulf x0 (broadcast S4096x256 (Scalar.ofBits .f32 0xC0000000#32)))
      (shapeCast S1024x256 x2 shapeCasts_S1x1024x256_S1024x256) (constant S4096x1024 .f32 0x00000000#32))

/-- The marks of a block from its distances. -/
theorem marks_eq (x0 : Vec Ideal S4096x256 .f32) (x2 : Vec Ideal S1x1024x256 .f32) (a2 : Vec Ideal S1x1024 .f32) :
    marks x0 x2 a2 = cmpf .oeq (distMat x0 x2 a2) (broadcastTo S4096x1024 (shapeCast S4096x1
      (multiReduction .minimumf [1] S4096 (distMat x0 x2 a2) 0x7F800000#32 reduces_S4096x1024_S4096 (.inl rfl) rfl)
        shapeCasts_S4096_S4096x1) broadcasts_S4096x1_S4096x1024) := by
  unfold marks k0_pay7 distMat; rfl

/-- The squared norm of a point of a block. -/
theorem sq_apply (x0 : FVec Ideal S4096x256 .f32) (r : Fin 4096) :
    multiReduction .add [1] S4096 (mulf x0 x0) 0x00000000#32 reduces_S4096x256_S4096 (.inl rfl) rfl (ix1 r)
      = ∑ d : Fin 256, x0 (ix2 r d) * x0 (ix2 r d) :=
  (Ideal.multiReduction_add_single _ _ _ _ _ _).trans
    (Finset.sum_congr rfl fun d _ => congrArg (fun i => x0 i * x0 i) (lift_apply_x r d))

/-- The distances at an index. -/
theorem distMat_apply (x0 : FVec Ideal S4096x256 .f32) (x2 : FVec Ideal S1x1024x256 .f32) (a2 : FVec Ideal S1x1024 .f32)
    (r : Fin 4096) (k : Fin 1024) : distMat x0 x2 a2 (ix2 r k) = dist0 x0 x2 a2 r k := by
  have e1 := (col_apply (multiReduction .add [1] S4096 (mulf x0 x0) 0x00000000#32 reduces_S4096x256_S4096 (.inl rfl) rfl) r k).trans
    (sq_apply x0 r)
  have e2 := row_apply a2 r k
  have e3 := prod_apply (mulf x0 (broadcast S4096x256 (Scalar.ofBits .f32 0xC0000000#32))) x2 r k
  have e4 : ∀ d : Fin 256, mulf x0 (broadcast S4096x256 (Scalar.ofBits .f32 0xC0000000#32)) (ix2 r d) = x0 (ix2 r d) * (-2) := fun d => by
    rw [← negTwo]; rfl
  unfold distMat dist0
  refine congrArg₂ (fun a b : EReal => a + b) (congrArg₂ (fun a b : EReal => a + b) e1 e2) (e3.trans ?_)
  exact Finset.sum_congr rfl fun d _ => congrArg (fun z : EReal => z * x2 (ix3 (0 : Fin 1) k d)) (e4 d)

/-- The least of a row. -/
theorem min_apply (w : FVec Ideal S4096x1024 .f32) (r : Fin 4096) :
    multiReduction .minimumf [1] S4096 w 0x7F800000#32 reduces_S4096x1024_S4096 (.inl rfl) rfl (ix1 r)
      = Finset.univ.fold min ⊤ (fun j : Fin 1024 => (w (ix2 r j) : EReal)) := by
  refine (multiReduction_minimumf_eq_fold _ _ _ _ _ _).trans ?_
  refine (reduces_S4096x1024_S4096.fold_filter_drop_single _ _ w (ix1 r)).trans ?_
  show Finset.fold min (Ideal.ofBits .f32 0x7F800000#32) _ _ = _
  rw [posInf]
  exact Finset.fold_congr fun j _ => congrArg w (lift_apply r j)

/-- A mark is where the distance is the row's least. -/
theorem marks_iff (x0 : Vec Ideal S4096x256 .f32) (x2 : Vec Ideal S1x1024x256 .f32) (a2 : Vec Ideal S1x1024 .f32) (r : Fin 4096)
    (k : Fin 1024) : marks x0 x2 a2 (ix2 r k) = 1#1 ↔ ∀ j, dist0 x0 x2 a2 r k ≤ dist0 x0 x2 a2 r j := by
  have e1 := (col_apply (multiReduction .minimumf [1] S4096 (distMat x0 x2 a2) 0x7F800000#32 reduces_S4096x1024_S4096 (.inl rfl) rfl) r k).trans
    (min_apply (distMat x0 x2 a2) r)
  simp only [distMat_apply] at e1
  rw [marks_eq, cmpf_apply, Ideal.cmpf_def, distMat_apply, e1]
  refine Iff.trans ?_ (eq_fold_min_iff (dist0 x0 x2 a2 r) k)
  show BitVec.ofBool (decide _) = 1#1 ↔ _
  rw [WordCmp.ofBool_decide_eq_ite]
  split_ifs with h
  · exact iff_of_true rfl h
  · exact iff_of_false (by decide) h

/-! ## The count of the marks -/

/-- The word the body compares with the number of rows is the number of marks. -/
theorem count_toNat (e : IVec S4096x1024 1) :
    (extractAt ![0, 0, 0] (k0_pay2 e) inpos_S1x1x1_p0_0_0).toNat = ∑ r : Fin 4096, ∑ k : Fin 1024, (e (ix2 r k)).toNat := by
  have hx : ∀ b : BitVec 1, (IntOp.xori b 0#1).setWidth 32 = b.setWidth 32 := by decide
  have hb : ∀ b : BitVec 1, (b.setWidth 32).toNat = b.toNat := by decide
  have hlt : ∀ b : BitVec 1, b.toNat ≤ 1 := by decide
  let v : IVec S1x4096x1024 32 := shapeCast S1x4096x1024 (extui 32 (xori e (broadcastTo S4096x1024 (broadcast S4096x1024 0#1) broadcasts_S4096x1024_S4096x1024)) natLt_1_32) shapeCasts_S4096x1024_S1x4096x1024
  have hv : ∀ r k, (v (ix3 (0 : Fin 1) r k)).toNat = (e (ix2 r k)).toNat := fun r k => by
    refine (congrArg BitVec.toNat (shapeCast_apply _ _ _ (ix2 r k) (by
      rw [Shape.rowMajor_val_two, Shape.rowMajor_val_three]; show r.val * 1024 + k.val = (0 * 4096 + r.val) * 1024 + k.val; omega))).trans ?_
    show ((IntOp.xori (e (ix2 r k)) 0#1).setWidth 32).toNat = _
    rw [hx, hb]
  have hsum : ∑ i : S1x4096x1024.Idx, (v i).toNat = ∑ r : Fin 4096, ∑ k : Fin 1024, (e (ix2 r k)).toNat := by
    rw [← Fintype.sum_prod_type']
    symm
    refine Fintype.sum_bijective (fun p : Fin 4096 × Fin 1024 => (ix3 (0 : Fin 1) p.1 p.2 : S1x4096x1024.Idx)) ⟨?_, ?_⟩ _ _ fun p => (hv p.1 p.2).symm
    · intro p q h
      exact Prod.ext (congrFun h 1) (congrFun h 2)
    · intro i
      refine ⟨(i 1, i 2), ?_⟩
      funext b
      fin_cases b
      · exact Subsingleton.elim (α := Fin 1) _ _
      · rfl
      · rfl
  have hfil : (Finset.univ.filter fun i : S1x4096x1024.Idx => reduces_S1x4096x1024_S1.drop i = ix1 (0 : Fin 1)) = Finset.univ :=
    Finset.filter_true_of_mem fun i _ => funext fun b => Fin.ext (by
      have h1 := (reduces_S1x4096x1024_S1.drop i b).isLt
      have h2 := (ix1 (0 : Fin 1) b).isLt
      fin_cases b
      have e1 : (reduces_S1x4096x1024_S1.drop i 0).val < 1 := h1
      have e2 : (ix1 (0 : Fin 1) (0 : Fin 1)).val < 1 := h2
      show (reduces_S1x4096x1024_S1.drop i 0).val = (ix1 (0 : Fin 1) (0 : Fin 1)).val
      omega)
  have hpay : extractAt ![0, 0, 0] (k0_pay2 e) inpos_S1x1x1_p0_0_0
      = multiReductionI .add [1, 2] S1 v 0#32 reduces_S1x4096x1024_S1 rfl (ix1 (0 : Fin 1)) := by
    unfold k0_pay2 extractAt
    dsimp only
    refine shapeCast_apply _ _ _ (ix1 (0 : Fin 1)) ?_
    rw [Shape.rowMajor_val_one, Shape.rowMajor_val_three]; rfl
  have hbound : ∑ r : Fin 4096, ∑ k : Fin 1024, (e (ix2 r k)).toNat < 2 ^ 32 := by
    refine lt_of_le_of_lt (Finset.sum_le_sum fun r _ => Finset.sum_le_sum fun k _ => hlt (e (ix2 r k))) ?_
    simp
  rw [hpay]
  refine (WordSum.toNat_multiReductionI_add v reduces_S1x4096x1024_S1 rfl (ix1 (0 : Fin 1)) ?_).trans ?_
  · rw [hfil, hsum]; exact hbound
  · rw [hfil, hsum]

/-- When the body does not store again, there are as many marks as rows. -/
theorem count_of_not_recount (e : IVec S4096x1024 1) (h : ¬recount e) :
    ∑ r : Fin 4096, ∑ k : Fin 1024, (e (ix2 r k)).toNat = 4096 := by
  rw [← count_toNat]
  have key : ∀ w : BitVec 32, ¬(Scalar.cmpi .ne (Scalar.extui (Scalar.cmpi .ne w 4096#32)) 0#32 = 1#1) → w = 4096#32 := fun w hw => by
    by_contra hne
    apply hw
    have h1 : Scalar.cmpi .ne w 4096#32 = 1#1 := by
      show IntOp.cmpi .ne w 4096#32 = 1#1
      rw [WordCmp.cmpi_ne_eq, decide_eq_true hne]; rfl
    rw [h1]; rfl
  rw [key _ h]; rfl

/-! ## The first mark of each row -/

/-- The second branch's marks: each row's first mark. -/
theorem firstMark_iff (e : IVec S4096x1024 1) (r : Fin 4096) (k0 : Fin 1024) (h0 : e (ix2 r k0) = 1#1)
    (hlt : ∀ j, j < k0 → ¬e (ix2 r j) = 1#1) (k : Fin 1024) : k0_pay3 e (ix2 r k) = 1#1 ↔ k = k0 := by
  let v : IVec S4096x1024 32 := select e (iota .tc S4096x1024 32 [1] iota_S4096x1024_d1_w32) (broadcast S4096x1024 1024#32)
  have hi : ∀ j : Fin 1024, iota .tc S4096x1024 32 [1] iota_S4096x1024_d1_w32 (ix2 r j) = BitVec.ofNat 32 j.val := fun j => by
    rw [iota_single_apply]
  have hn : ∀ j : Fin 1024, (BitVec.ofNat 32 j.val).toInt = (j.val : ℤ) := fun j => by
    have := j.isLt
    rw [BitVec.toInt_eq_toNat_of_lt (by rw [BitVec.toNat_ofNat, Nat.mod_eq_of_lt (by omega)]; omega), BitVec.toNat_ofNat,
      Nat.mod_eq_of_lt (by omega)]
  have hv : ∀ j, (v (ix2 r j)).toInt = if e (ix2 r j) = 1#1 then (j.val : ℤ) else 1024 := fun j => by
    show (Scalar.select (e (ix2 r j)) (iota .tc S4096x1024 32 [1] iota_S4096x1024_d1_w32 (ix2 r j)) 1024#32).toInt = _
    by_cases hj : e (ix2 r j) = 1#1
    · rw [if_pos hj, hj, select_one, hi, hn]
    · rw [if_neg hj, eq_zero_of_ne_one hj, select_zero]; rfl
  have hmin : ∀ x y : BitVec 32, (IKind.minsi.op x y).toInt = min x.toInt y.toInt := fun x y => by
    show (if x.slt y then x else y).toInt = _
    by_cases hxy : x.toInt < y.toInt
    · rw [if_pos (by simpa [BitVec.slt] using hxy), min_eq_left hxy.le]
    · rw [if_neg (by simpa [BitVec.slt] using hxy), min_eq_right (not_lt.1 hxy)]
  have hm : (multiReductionI .minsi [1] S4096 v 2147483647#32 reduces_S4096x1024_S4096 rfl (ix1 r)).toInt
      = Finset.univ.fold min (2147483647 : ℤ) fun j : Fin 1024 => if e (ix2 r j) = 1#1 then (j.val : ℤ) else 1024 := by
    refine (congrArg BitVec.toInt ((multiReductionI_eq_fold .minsi v _ reduces_S4096x1024_S4096 rfl (ix1 r)).trans
      (reduces_S4096x1024_S4096.fold_filter_drop_single _ _ v (ix1 r)))).trans ?_
    rw [← Finset.fold_hom hmin]
    show Finset.fold min (2147483647#32 : BitVec 32).toInt _ _ = _
    refine Finset.fold_congr fun j _ => ?_
    exact (congrArg (fun i => (v i).toInt) (lift_apply r j)).trans (hv j)
  have hk : k0_pay3 e (ix2 r k) = IntOp.cmpi .eq (iota .tc S4096x1024 32 [1] iota_S4096x1024_d1_w32 (ix2 r k))
      (broadcastTo S4096x1024 (shapeCast S4096x1 (multiReductionI .minsi [1] S4096 v 2147483647#32 reduces_S4096x1024_S4096 rfl)
        shapeCasts_S4096_S4096x1) broadcasts_S4096x1_S4096x1024 (ix2 r k)) := rfl
  have hfold : (k0.val : ℤ) = Finset.univ.fold min (2147483647 : ℤ) fun j : Fin 1024 => if e (ix2 r j) = 1#1 then (j.val : ℤ) else 1024 := by
    refine (eq_fold_min_int_iff _ _ _ ⟨k0, ?_⟩).2 ⟨⟨k0, if_pos h0⟩, fun j => ?_⟩
    · rw [if_pos h0]; have := k0.isLt; omega
    · have := k0.isLt
      split_ifs with hj
      · by_contra hc
        exact hlt j (Fin.lt_def.2 (by omega)) hj
      · omega
  rw [hk, col_apply, hi, WordCmp.cmpi_eq_eq, WordCmp.ofBool_decide_eq_ite]
  rw [← hfold] at hm
  have hword : multiReductionI .minsi [1] S4096 v 2147483647#32 reduces_S4096x1024_S4096 rfl (ix1 r) = BitVec.ofNat 32 k0.val :=
    BitVec.eq_of_toInt_eq (by rw [hm, hn])
  rw [hword]
  constructor
  · intro h
    have h' : BitVec.ofNat 32 k.val = BitVec.ofNat 32 k0.val := by
      by_contra hne; rw [if_neg hne] at h; exact absurd h (by decide)
    have := congrArg BitVec.toInt h'
    rw [hn, hn] at this
    exact Fin.ext (by omega)
  · rintro rfl; exact if_pos rfl

/-! ## The marks the body ends with -/

/-- The marks the body's results are formed from: each row's first mark where it stores again, else the marks. -/
def kept (e : IVec S4096x1024 1) : IVec S4096x1024 1 := if recount e then k0_pay3 e else e

/-- They are one in each row, at the first least distance. -/
theorem kept_iff (x0 : Vec Ideal S4096x256 .f32) (x2 : Vec Ideal S1x1024x256 .f32) (a2 : Vec Ideal S1x1024 .f32) (r : Fin 4096)
    (k0 : Fin 1024) (h0 : FirstLeast (dist0 x0 x2 a2 r) k0) (k : Fin 1024) :
    kept (marks x0 x2 a2) (ix2 r k) = 1#1 ↔ k = k0 := by
  have hm := (marks_iff x0 x2 a2 r k0).2 h0.1
  unfold kept
  by_cases h : recount (marks x0 x2 a2)
  · rw [if_pos h]
    refine firstMark_iff _ r k0 hm (fun j hj hc => ?_) k
    exact absurd (((marks_iff x0 x2 a2 r j).1 hc) k0) (not_le.2 (h0.2 j hj))
  · rw [if_neg h]
    refine ⟨fun hk => ?_, fun hk => hk ▸ hm⟩
    refine one_mark (fun r k => marks x0 x2 a2 (ix2 r k)) (fun r => ?_) (count_of_not_recount _ h) r k k0 hk hm
    obtain ⟨j, hj⟩ := exists_firstLeast (dist0 x0 x2 a2 r)
    exact ⟨j, (marks_iff x0 x2 a2 r j).2 hj.1⟩

/-- The mask's block is the kept marks as bytes, whichever way the count goes; -/
theorem left4_eq (x0 : Vec Ideal S4096x256 .f32) (x2 : Vec Ideal S1x1024x256 .f32) (a2 : Vec Ideal S1x1024 .f32) :
    left4 x0 x2 a2 = extui 8 (kept (marks x0 x2 a2)) natLt_1_8 := by
  unfold left4 kept
  split_ifs
  · rfl
  · rfl

/-- the log-probability's block likewise is computed from the kept marks. -/
theorem left5_eq (x0 : Vec Ideal S4096x256 .f32) (x1 : Vec Ideal S1x4096 .f32) (x2 : Vec Ideal S1x1024x256 .f32)
    (x3 : Vec Ideal S1x1024 .f32) (a2 : Vec Ideal S1x1024 .f32) :
    left5 x0 x1 x2 x3 a2 = k0_pay1 (kept (marks x0 x2 a2)) (k0_pay8 x3) x1 := by
  unfold left5 kept
  split_ifs
  · rfl
  · rfl

/-- The mask's block: one mark in each row, at the first least distance. -/
theorem left4_apply (x0 : Vec Ideal S4096x256 .f32) (x2 : Vec Ideal S1x1024x256 .f32) (a2 : Vec Ideal S1x1024 .f32) (r : Fin 4096)
    (k0 : Fin 1024) (h0 : FirstLeast (dist0 x0 x2 a2 r) k0) (k : Fin 1024) :
    left4 x0 x2 a2 (ix2 r k) = if k = k0 then 1#8 else 0#8 := by
  rw [left4_eq]
  show (kept (marks x0 x2 a2) (ix2 r k)).setWidth 8 = _
  by_cases h : k = k0
  · rw [if_pos h, (kept_iff x0 x2 a2 r k0 h0 k).2 h]; rfl
  · rw [if_neg h, eq_zero_of_ne_one fun hc => h ((kept_iff x0 x2 a2 r k0 h0 k).1 hc)]; rfl

/-! ## The logits' log-softmax -/

/-- The one row of the logits, with a second unit axis. -/
theorem unit_apply {α : Type} (x : S1x1024.Idx → α) (k : Fin 1024) :
    shapeCast S1x1x1024 x shapeCasts_S1x1024_S1x1x1024 (ix3 (0 : Fin 1) (0 : Fin 1) k) = x (ix2 (0 : Fin 1) k) :=
  shapeCast_apply _ _ _ _ (by
    rw [Shape.rowMajor_val_two, Shape.rowMajor_val_three]; show 0 * 1024 + k.val = (0 * 1 + 0) * 1024 + k.val; omega)

/-- An index of a row with two unit axes is its last coordinate; -/
theorem eq_unit (i : S1x1x1024.Idx) : i = ix3 (0 : Fin 1) (0 : Fin 1) (i 2) := by
  funext b
  fin_cases b
  · exact Subsingleton.elim (α := Fin 1) _ _
  · exact Subsingleton.elim (α := Fin 1) _ _
  · rfl

/-- the one element of a one-element vector; -/
theorem extract_apply {α : Type} (x : S1.Idx → α) :
    extractAt ![0, 0, 0] (shapeCast S1x1x1 x shapeCasts_S1_S1x1x1) inpos_S1x1x1_p0_0_0 = x (ix1 (0 : Fin 1)) := by
  unfold extractAt
  refine shapeCast_apply _ _ _ (ix1 (0 : Fin 1)) ?_
  rw [Shape.rowMajor_val_one, Shape.rowMajor_val_three]; rfl

/-- a one-element shape has one index. -/
theorem one_idx (i j : S1.Idx) : i = j := by
  funext b; fin_cases b; exact Subsingleton.elim (α := Fin 1) _ _

/-- The greatest of the row. -/
theorem top_apply (x : FVec Ideal S1x1024 .f32) :
    multiReduction .maximumf [1, 2] S1 (shapeCast S1x1x1024 x shapeCasts_S1x1024_S1x1x1024) 0xFF800000#32 reduces_S1x1x1024_S1
      (.inl rfl) rfl (ix1 (0 : Fin 1)) = ⨆ j : Fin 1024, (x (ix2 (0 : Fin 1) j) : EReal) := by
  refine (multiReduction_maximumf_eq_fold _ _ _ _ _ _).trans ?_
  show Finset.fold max (Ideal.ofBits .f32 0xFF800000#32) _ _ = _
  rw [negInf]
  refine eq_of_forall_ge_iff fun c => ?_
  rw [Finset.fold_max_le, iSup_le_iff]
  constructor
  · intro h j
    have := h.2 (ix3 (0 : Fin 1) (0 : Fin 1) j) (Finset.mem_filter.2 ⟨Finset.mem_univ _, one_idx _ _⟩)
    rw [unit_apply] at this
    exact this
  · intro h
    refine ⟨bot_le, fun i _ => ?_⟩
    rw [eq_unit i]
    exact (le_of_eq (unit_apply x (i 2))).trans (h (i 2))

/-- The sum of the row. -/
theorem total_apply (x : FVec Ideal S1x1024 .f32) :
    multiReduction .add [1, 2] S1 (shapeCast S1x1x1024 x shapeCasts_S1x1024_S1x1x1024) 0x00000000#32 reduces_S1x1x1024_S1
      (.inl rfl) rfl (ix1 (0 : Fin 1)) = ∑ j : Fin 1024, (x (ix2 (0 : Fin 1) j) : EReal) := by
  refine (Ideal.multiReduction_add_total _ _ _ (fun b => by fin_cases b; rfl) _ _ _).trans ?_
  symm
  refine Fintype.sum_bijective (fun k : Fin 1024 => (ix3 (0 : Fin 1) (0 : Fin 1) k : S1x1x1024.Idx)) ⟨?_, ?_⟩ _ _
    fun k => (unit_apply x k).symm
  · intro p q h; exact congrFun h 2
  · intro i; exact ⟨i 2, (eq_unit i).symm⟩

/-- The log-softmax the body forms of the logits' row. -/
theorem logits_apply (x3 : FVec Ideal S1x1024 .f32) (k : Fin 1024) :
    k0_pay8 (F := Ideal) x3 (ix2 (0 : Fin 1) k) = logSoft (fun j : Fin 1024 => (x3 (ix2 (0 : Fin 1) j) : EReal)) k := by
  unfold k0_pay8 logSoft
  dsimp only
  rw [shapeCast_self, extract_apply, top_apply, extract_apply, total_apply]
  rfl

/-! ## The log-probability's block -/

/-- The log-probability's block: less the entry of the row at the first least distance. -/
theorem left5_apply (x0 : Vec Ideal S4096x256 .f32) (x1 : Vec Ideal S1x4096 .f32) (x2 : Vec Ideal S1x1024x256 .f32)
    (x3 : Vec Ideal S1x1024 .f32) (a2 : Vec Ideal S1x1024 .f32) (r : Fin 4096)
    (k0 : Fin 1024) (h0 : FirstLeast (dist0 x0 x2 a2 r) k0) :
    left5 x0 x1 x2 x3 a2 (ix2 (0 : Fin 1) r)
      = (x1 (ix2 (0 : Fin 1) r) : EReal) - logSoft (fun j : Fin 1024 => (x3 (ix2 (0 : Fin 1) j) : EReal)) k0 := by
  rw [left5_eq]
  have hs : ∀ (c : IVec S4096x1024 1) (v : FVec Ideal S1x1024 .f32), multiReduction .add [1] S4096
      (select c (broadcastTo S4096x1024 v broadcasts_S1x1024_S4096x1024) (broadcast S4096x1024 (Scalar.ofBits .f32 0x00000000#32)))
      0x00000000#32 reduces_S4096x1024_S4096 (.inl rfl) rfl (ix1 r)
      = ∑ j : Fin 1024, Scalar.select (c (ix2 r j)) (v (ix2 (0 : Fin 1) j) : EReal) 0 := fun c v => by
    refine (Ideal.multiReduction_add_single _ _ _ _ _ _).trans (Finset.sum_congr rfl fun j _ => ?_)
    refine (congrArg (select c _ _) (lift_apply r j)).trans ?_
    show Scalar.select _ (broadcastTo S4096x1024 v _ (ix2 r j)) (Ideal.ofBits .f32 0x00000000#32) = _
    rw [Ideal.ofBits_zero_f32]
    exact congrArg (fun z : EReal => Scalar.select (c (ix2 r (j : Fin 1024))) z 0) (row_apply v r j)
  unfold k0_pay1
  dsimp only
  rw [shapeCast_self, shapeCast_self]
  show (x1 (ix2 (0 : Fin 1) r) : EReal) - shapeCast S1x4096 _ _ (ix2 (0 : Fin 1) r) = _
  congr 1
  refine (shapeCast_apply _ _ _ (ix2 r (0 : Fin 1)) ?_).trans ?_
  · rw [Shape.rowMajor_val_two, Shape.rowMajor_val_two]; show r.val * 1 + 0 = 0 * 4096 + r.val; omega
  refine (shapeCast_apply _ _ _ (ix1 r) ?_).trans ?_
  · rw [Shape.rowMajor_val_two, Shape.rowMajor_val_one]; show r.val = r.val * 1 + 0; omega
  rw [hs, sum_only (fun j : Fin 1024 => (k0_pay8 x3 (ix2 (0 : Fin 1) j) : EReal)) _ k0 (kept_iff x0 x2 a2 r k0 h0), logits_apply]

end Cert.KernelIdeal.Vq
-- ==== Proof.Values.lean ====
module

public import proofs.«01_k».proof.Proof.Block
public import Idealize.ShloMosaic.Lib.StableHlo.Run

/-! The kernel's results as arrays, over the extended reals: a block of a grid point read at an index of its array, the
two result arrays of the launch from the blocks the points write back, and the program's results from those. -/

@[expose] public section

set_option maxRecDepth 16384

noncomputable section

open scoped BigOperators

namespace Cert.KernelIdeal.Vq

open Idealize.ShloMosaic Idealize.ShloMosaic.TcCoe Idealize.ShloMosaic.ValueIdx Idealize.SL.Sem
open Cert.KernelIdeal Cert.KernelIdeal.Gen Cert.Vq

variable (m : (ℓ : Loc nD τ sig) → Buf (Elt Ideal) ℓ) (ρ : Dev nD → PrngReg)

/-! ## The blocks -/

/-- The row of the array that row `r` of point `t`'s block is. -/
def rowAt (t : Fin cfg0.N) (r : Fin 4096) : Fin 16384 :=
  ⟨t.val * 4096 + r.val, by have := lt_of_lt_of_eq t.isLt N_0; have := r.isLt; omega⟩

/-- The block of each window at a point, by its block index. -/
theorem index_facts (t : Fin cfg0.N) :
    (win0_0.index t (0 : Fin 2) = t.val ∧ win0_0.index t (1 : Fin 2) = 0)
    ∧ (win0_1.index t (0 : Fin 2) = 0 ∧ win0_1.index t (1 : Fin 2) = t.val)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = t.val) := by
  rcases fin_N0 t with rfl | rfl | rfl | rfl <;> decide +kernel

/-- Row `r` of the points' block is the array's row; -/
theorem emb0 (t : Fin cfg0.N) (r : Fin 4096) (d : Fin 256) :
    ((cfg0.win 0).blk t).view.emb (ix2 r d) = ix2 (rowAt t r) d := by
  obtain ⟨⟨e0, e1⟩, -⟩ := index_facts t
  funext a; apply Fin.ext
  match a with
  | ⟨0, _⟩ => show win0_0.index t (0 : Fin 2) * 4096 + 1 * r.val = t.val * 4096 + r.val; omega
  | ⟨1, _⟩ => show win0_0.index t (1 : Fin 2) * 256 + 1 * d.val = d.val; omega

/-- so it is of the log-probabilities' block; -/
theorem emb1 (t : Fin cfg0.N) (r : Fin 4096) :
    ((cfg0.win 1).blk t).view.emb (ix2 (0 : Fin 1) r) = ix2 (0 : Fin 1) (rowAt t r) := by
  obtain ⟨-, ⟨e0, e1⟩, -⟩ := index_facts t
  funext a; apply Fin.ext
  match a with
  | ⟨0, _⟩ => show win0_1.index t (0 : Fin 2) * 1 + 1 * 0 = 0; omega
  | ⟨1, _⟩ => show win0_1.index t (1 : Fin 2) * 4096 + 1 * r.val = t.val * 4096 + r.val; omega

/-- the anchors' block is the whole array; -/
theorem emb2 (t : Fin cfg0.N) (k : Fin 1024) (d : Fin 256) :
    ((cfg0.win 2).blk t).view.emb (ix3 (0 : Fin 1) k d) = ix3 (0 : Fin 1) k d := by
  obtain ⟨-, -, ⟨e0, e1, e2⟩, -⟩ := index_facts t
  funext a; apply Fin.ext
  match a with
  | ⟨0, _⟩ => show win0_2.index t (0 : Fin 3) * 1 + 1 * 0 = 0; omega
  | ⟨1, _⟩ => show win0_2.index t (1 : Fin 3) * 1024 + 1 * k.val = k.val; omega
  | ⟨2, _⟩ => show win0_2.index t (2 : Fin 3) * 256 + 1 * d.val = d.val; omega

/-- so is the logits'; -/
theorem emb3 (t : Fin cfg0.N) (k : Fin 1024) :
    ((cfg0.win 3).blk t).view.emb (ix2 (0 : Fin 1) k) = ix2 (0 : Fin 1) k := by
  obtain ⟨-, -, -, ⟨e0, e1⟩, -⟩ := index_facts t
  funext a; apply Fin.ext
  match a with
  | ⟨0, _⟩ => show win0_3.index t (0 : Fin 2) * 1 + 1 * 0 = 0; omega
  | ⟨1, _⟩ => show win0_3.index t (1 : Fin 2) * 1024 + 1 * k.val = k.val; omega

/-- row `r` of the mask's block is the array's row; -/
theorem emb4 (t : Fin cfg0.N) (r : Fin 4096) (k : Fin 1024) :
    ((cfg0.win 4).blk t).view.emb (ix2 r k) = ix2 (rowAt t r) k := by
  obtain ⟨-, -, -, -, ⟨e0, e1⟩, -⟩ := index_facts t
  funext a; apply Fin.ext
  match a with
  | ⟨0, _⟩ => show win0_4.index t (0 : Fin 2) * 4096 + 1 * r.val = t.val * 4096 + r.val; omega
  | ⟨1, _⟩ => show win0_4.index t (1 : Fin 2) * 1024 + 1 * k.val = k.val; omega

/-- so it is of the result log-probabilities'. -/
theorem emb5 (t : Fin cfg0.N) (r : Fin 4096) :
    ((cfg0.win 5).blk t).view.emb (ix2 (0 : Fin 1) r) = ix2 (0 : Fin 1) (rowAt t r) := by
  obtain ⟨-, -, -, -, -, ⟨e0, e1⟩⟩ := index_facts t
  funext a; apply Fin.ext
  match a with
  | ⟨0, _⟩ => show win0_5.index t (0 : Fin 2) * 1 + 1 * 0 = 0; omega
  | ⟨1, _⟩ => show win0_5.index t (1 : Fin 2) * 4096 + 1 * r.val = t.val * 4096 + r.val; omega

/-- The arguments as arrays of extended reals: the points, -/
abbrev points (c : Dev nD) : FVec Ideal S16384x256 .f32 := m ((c : Thread nD τ).loc main_arg0)
/-- the log-probabilities, -/
abbrev logps (c : Dev nD) : FVec Ideal S16384x1 .f32 := m ((c : Thread nD τ).loc main_arg1)
/-- the anchors -/
abbrev anchors (c : Dev nD) : FVec Ideal S1x1024x256 .f32 := m ((c : Thread nD τ).loc main_arg2)
/-- and the mixture's logits. -/
abbrev logits (c : Dev nD) : FVec Ideal S1024 .f32 := m ((c : Thread nD τ).loc main_arg3)

/-- The launch finds the logits as one row, -/
theorem V_main_v0 (c : Dev nD) : V m c main_v0 = shapeCast S1x1024 (logits m c) shapeCasts_S1024_S1x1024 := by
  show StableHlo.after (List.flatten [hostOps0]) (fun b => m (c, b)) (Proc.devRef .tc main_v0) = _
  simp only [hostOps0, List.flatten_cons, List.flatten_nil, List.append_nil]
  after_results
  rfl

/-- and the log-probabilities as one row. -/
theorem V_main_v1 (c : Dev nD) : V m c main_v1 = shapeCast S1x16384 (logps m c) shapeCasts_S16384x1_S1x16384 := by
  show StableHlo.after (List.flatten [hostOps0]) (fun b => m (c, b)) (Proc.devRef .tc main_v1) = _
  simp only [hostOps0, List.flatten_cons, List.flatten_nil, List.append_nil]
  after_results
  rfl

/-- The points' block at an index; -/
theorem iblk0_apply (c : Dev nD) (t : Fin cfg0.N) (r : Fin 4096) (d : Fin 256) :
    iblk m c 0 t (ix2 r d) = points m c (ix2 (rowAt t r) d) := by
  show V m c main_arg0 (((cfg0.win 0).blk t).view.emb (ix2 r d)) = _
  rw [emb0]
  exact congrFun (V_main_arg0 m c) _

/-- the log-probabilities'; -/
theorem iblk1_apply (c : Dev nD) (t : Fin cfg0.N) (r : Fin 4096) :
    iblk m c 1 t (ix2 (0 : Fin 1) r) = logps m c (ix2 (rowAt t r) (0 : Fin 1)) := by
  show V m c main_v1 (((cfg0.win 1).blk t).view.emb (ix2 (0 : Fin 1) r)) = _
  rw [emb1]
  refine (congrFun (V_main_v1 m c) _).trans (shapeCast_apply _ _ _ _ ?_)
  rw [Shape.rowMajor_val_two, Shape.rowMajor_val_two]
  show (rowAt t r).val * 1 + 0 = 0 * 16384 + (rowAt t r).val
  omega

/-- the anchors'; -/
theorem iblk2_apply (c : Dev nD) (t : Fin cfg0.N) (k : Fin 1024) (d : Fin 256) :
    iblk m c 2 t (ix3 (0 : Fin 1) k d) = anchors m c (ix3 (0 : Fin 1) k d) := by
  show V m c main_arg2 (((cfg0.win 2).blk t).view.emb (ix3 (0 : Fin 1) k d)) = _
  rw [emb2]
  exact congrFun (V_main_arg2 m c) _

/-- the logits'. -/
theorem iblk3_apply (c : Dev nD) (t : Fin cfg0.N) (k : Fin 1024) :
    iblk m c 3 t (ix2 (0 : Fin 1) k) = logits m c (ix1 k) := by
  show V m c main_v0 (((cfg0.win 3).blk t).view.emb (ix2 (0 : Fin 1) k)) = _
  rw [emb3]
  refine (congrFun (V_main_v0 m c) _).trans (shapeCast_apply _ _ _ _ ?_)
  rw [Shape.rowMajor_val_two, Shape.rowMajor_val_one]
  show k.val = 0 * 1024 + k.val
  omega

/-! ## The nearest anchor of each point -/

/-- The distance of point `r` to anchor `k` as the kernel computes it. -/
def nearAt (c : Dev nD) (r : Fin 16384) (k : Fin 1024) : EReal :=
  near (fun d : Fin 256 => (points m c (ix2 r d) : EReal)) (fun d => (anchors m c (ix3 (0 : Fin 1) k d) : EReal))

/-- The first anchor of least distance to point `r`. -/
def nearest (c : Dev nD) (r : Fin 16384) : Fin 1024 := (exists_firstLeast (nearAt m c r)).choose

/-- It is the first of least distance. -/
theorem nearest_first (c : Dev nD) (r : Fin 16384) : FirstLeast (nearAt m c r) (nearest m c r) :=
  (exists_firstLeast (nearAt m c r)).choose_spec

/-- The distances a block computes are those of its rows. -/
theorem dist0_block (c : Dev nD) (t : Fin cfg0.N) (r : Fin 4096) :
    dist0 (iblk m c 0 t) (iblk m c 2 t) (norms m c) r = nearAt m c (rowAt t r) := by
  funext k
  unfold dist0 nearAt near norms
  rw [norms_apply]
  simp only [iblk0_apply, iblk2_apply]

/-! ## The launch's result arrays -/

/-- One at the index `k0`, zero elsewhere. -/
def markAt (k0 k : Fin 1024) : BitVec 8 := if k = k0 then 1#8 else 0#8

/-- The mask: a one in each row at the nearest anchor, zeros elsewhere. -/
def maskOf (c : Dev nD) : IVec S16384x1024 8 := fun i => markAt (nearest m c (i 0)) (i 1)

/-- The log-probability of each point less the log-softmax of the logits at its nearest anchor, as one row. -/
def logpOf (c : Dev nD) : FVec Ideal S1x16384 .f32 := fun i =>
  (logps m c (ix2 (i 1) (0 : Fin 1)) : EReal) - logSoft (fun j : Fin 1024 => (logits m c (ix1 j) : EReal)) (nearest m c (i 1))

/-- What a point writes back to the mask is the mask's block; -/
theorem flushed4 (c : Dev nD) (t : Fin cfg0.N) :
    (dats m 0 c).flushed 4 t = ((cfg0.win 4).blk t).view.read (Elt Ideal) (maskOf m c) := by
  show (cfg0.win 4).cut (grid0.coords t) ((dats m 0 c).after 4 t) = _
  rw [after4]
  funext z
  obtain ⟨r, k, rfl⟩ : ∃ (r : Fin 4096) (k : Fin 1024), z = ix2 r k := ⟨z 0, z 1, eq_ix2 z⟩
  refine (left4_apply _ _ _ r (nearest m c (rowAt t r)) ?_ k).trans ?_
  · rw [dist0_block]; exact nearest_first m c _
  · show _ = maskOf m c (((cfg0.win 4).blk t).view.emb (ix2 r k))
    rw [emb4]; rfl

/-- to the log-probabilities, theirs. -/
theorem flushed5 (c : Dev nD) (t : Fin cfg0.N) :
    (dats m 0 c).flushed 5 t = ((cfg0.win 5).blk t).view.read (Elt Ideal) (logpOf m c) := by
  show (cfg0.win 5).cut (grid0.coords t) ((dats m 0 c).after 5 t) = _
  rw [after5]
  funext z
  obtain ⟨r, rfl⟩ : ∃ r : Fin 4096, z = ix2 (0 : Fin 1) r :=
    ⟨z 1, (eq_ix2 z).trans (congrArg (fun a : Fin 1 => ix2 a (z 1)) (Subsingleton.elim (α := Fin 1) _ _))⟩
  refine (left5_apply _ _ _ _ _ r (nearest m c (rowAt t r)) ?_).trans ?_
  · rw [dist0_block]; exact nearest_first m c _
  · show _ = logpOf m c (((cfg0.win 5).blk t).view.emb (ix2 (0 : Fin 1) r))
    rw [emb5, iblk1_apply]
    simp only [iblk3_apply]
    rfl

/-- Every row is a row of some point's block. -/
theorem exists_rowAt (R : Fin 16384) : ∃ (t : Fin cfg0.N) (r : Fin 4096), rowAt t r = R :=
  ⟨⟨R.val / 4096, by rw [show cfg0.N = 4 from N_0]; have := R.isLt; omega⟩, ⟨R.val % 4096, Nat.mod_lt _ (by decide)⟩,
    Fin.ext (by show R.val / 4096 * 4096 + R.val % 4096 = R.val; omega)⟩

/-- Every index of the mask is in some point's block; -/
theorem cover4 (i : S16384x1024.Idx) :
    ∃ t : Fin cfg0.N, (cfg0.win 4).flush t = true ∧ i ∈ ((cfg0.win 4).blk t).view.set := by
  obtain ⟨t, r, h⟩ := exists_rowAt (i 0)
  refine ⟨t, flush0_4 t, ?_⟩
  have e : ((cfg0.win 4).blk t).view.emb (ix2 r (i 1)) = i :=
    (emb4 t r (i 1)).trans ((congrArg (fun a : Fin 16384 => ix2 a (i 1 : Fin 1024)) h).trans (eq_ix2 i).symm)
  rw [← e]
  exact View.emb_mem_set _ _

/-- so is every index of the log-probabilities' row. -/
theorem cover5 (i : S1x16384.Idx) :
    ∃ t : Fin cfg0.N, (cfg0.win 5).flush t = true ∧ i ∈ ((cfg0.win 5).blk t).view.set := by
  obtain ⟨t, r, h⟩ := exists_rowAt (i 1)
  refine ⟨t, flush0_5 t, ?_⟩
  have e : ((cfg0.win 5).blk t).view.emb (ix2 (0 : Fin 1) r) = i :=
    (emb5 t r).trans ((congrArg (fun a : Fin 16384 => ix2 (0 : Fin 1) a) h).trans
      ((eq_ix2 i).trans (congrArg (fun a : Fin 1 => ix2 a (i 1 : Fin 16384)) (Subsingleton.elim (α := Fin 1) _ _))).symm)
  rw [← e]
  exact View.emb_mem_set _ _

/-- So the launch leaves the mask, -/
theorem final4 (c : Dev nD) : (dats m 0 c).arrAt 4 cfg0.N = maskOf m c :=
  (dats m 0 c).arrAt_eq_of_cover 4 (maskOf m c) (fun t _ => flushed4 m c t) cover4

/-- and the log-probabilities. -/
theorem final5 (c : Dev nD) : (dats m 0 c).arrAt 5 cfg0.N = logpOf m c :=
  (dats m 0 c).arrAt_eq_of_cover 5 (logpOf m c) (fun t _ => flushed5 m c t) cover5

/-! ## The program's results -/

/-- The program's log-probabilities: the launch's row as a column. -/
def logpOut (c : Dev nD) : FVec Ideal S16384x1 .f32 := shapeCast S16384x1 (logpOf m c) shapeCasts_S1x16384_S16384x1

/-- The program's mask: where the launch's is not zero. -/
def maskOut (c : Dev nD) : IVec S16384x1x1024 1 :=
  shapeCast S16384x1x1024 (cmpi .ne (maskOf m c) (broadcastInDim S16384x1024 ![] bcast_S_S16384x1024 (constantI S_ 8 0#8)))
    shapeCasts_S16384x1024_S16384x1x1024

/-- The program's log-probability of a point; -/
theorem logpOut_apply (c : Dev nD) (r : Fin 16384) :
    logpOut m c (ix2 r (0 : Fin 1)) = (logps m c (ix2 r (0 : Fin 1)) : EReal)
      - logSoft (fun j : Fin 1024 => (logits m c (ix1 j) : EReal)) (nearest m c r) := by
  unfold logpOut
  refine (shapeCast_apply _ _ _ (ix2 (0 : Fin 1) r) ?_).trans rfl
  rw [Shape.rowMajor_val_two, Shape.rowMajor_val_two]
  show 0 * 16384 + r.val = r.val * 1 + 0
  omega

/-- its mask at a point and an anchor. -/
theorem maskOut_apply (c : Dev nD) (r : Fin 16384) (k : Fin 1024) :
    maskOut m c (ix3 r (0 : Fin 1) k) = if k = nearest m c r then 1#1 else 0#1 := by
  unfold maskOut
  refine (shapeCast_apply _ _ _ (ix2 r k) ?_).trans ?_
  · rw [Shape.rowMajor_val_two, Shape.rowMajor_val_three]; show r.val * 1024 + k.val = (r.val * 1 + 0) * 1024 + k.val; omega
  show IntOp.cmpi .ne (if k = nearest m c r then 1#8 else 0#8) 0#8 = _
  split_ifs <;> rfl

/-- The lines after the launch leave the log-probabilities as a column, -/
theorem tail_v3 (c : Dev nD) : Pipeline.afterTail₀ cfgs (dats m) 0 (V0 m) [hostOps1] c main_v3 = logpOut m c := by
  have h : ∀ W : Valuation τ sig (Elt Ideal), StableHlo.after (List.flatten [hostOps1]) W (Proc.devRef .tc main_v3)
      = shapeCast S16384x1 (W (Proc.devRef .tc main_v2_1)) shapeCasts_S1x16384_S16384x1 := fun W => by
    simp only [hostOps1, List.flatten_cons, List.flatten_nil, List.append_nil]
    after_results
    rfl
  unfold Pipeline.afterTail₀
  refine (h _).trans ?_
  unfold logpOut
  exact congrArg (fun x => shapeCast S16384x1 x shapeCasts_S1x16384_S16384x1)
    ((Pipeline.withArrays_arr spec0 launch0.win.arr_inj c (V0 m c) _ 5).trans (final5 m c))

/-- and the mask compared with zero. -/
theorem tail_v7 (c : Dev nD) : Pipeline.afterTail₀ cfgs (dats m) 0 (V0 m) [hostOps1] c main_v7 = maskOut m c := by
  have h : ∀ W : Valuation τ sig (Elt Ideal), StableHlo.after (List.flatten [hostOps1]) W (Proc.devRef .tc main_v7)
      = shapeCast S16384x1x1024 (cmpi .ne (W (Proc.devRef .tc main_v2_0))
        (broadcastInDim S16384x1024 ![] bcast_S_S16384x1024 (constantI S_ 8 0#8))) shapeCasts_S16384x1024_S16384x1x1024 := fun W => by
    simp only [hostOps1, List.flatten_cons, List.flatten_nil, List.append_nil]
    after_results
    rfl
  unfold Pipeline.afterTail₀
  refine (h _).trans ?_
  unfold maskOut
  exact congrArg (fun x => shapeCast S16384x1x1024 (cmpi .ne x
      (broadcastInDim S16384x1024 ![] bcast_S_S16384x1024 (constantI S_ 8 0#8))) shapeCasts_S16384x1024_S16384x1x1024)
    ((Pipeline.withArrays_arr spec0 launch0.win.arr_inj c (V0 m c) _ 4).trans (final4 m c))

/-- The run: the program ends with its results at these arrays and its arguments unchanged. -/
theorem run : θ_run defs (onTc (τ := τ) (main (F := Ideal))) ⟨m, fun _ => 0, ρ⟩ (fun r => ∀ c : Dev nD,
      r.2.mem ((c.tc : Thread nD τ).loc main_v3) = logpOut m c
      ∧ r.2.mem ((c.tc : Thread nD τ).loc main_v7) = maskOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1.1 c).2 main_v3 (Pipeline.mem_restRefs_of main_v3 (by decide) (by decide))).trans (tail_v3 m c),
        ((h.1.1 c).2 main_v7 (Pipeline.mem_restRefs_of main_v7 (by decide) (by decide))).trans (tail_v7 m c), h.2.1 c⟩)
    (θ_run_and (run_main m ρ) (frame m ρ))

end Cert.KernelIdeal.Vq
-- ==== Proof.Reference.lean ====
module

public import proofs.«01_k».proof.Proof.Gen.ReferenceIdeal
public import Idealize.ShloMosaic.Lib.StableHlo.Run
public import Idealize.ShloMosaic.Lib.Pipeline.Regions

/-! The reference program's run: a straight line of host operations, the called functions' bodies in place.  What it
leaves at its results is stated as four functions of the arguments: the distances, the index of the least, the
logits' log-softmax, and the results themselves. -/

@[expose] public section

set_option maxRecDepth 16384

noncomputable section

namespace Cert.ReferenceIdeal.Vq

open Cert.ReferenceIdeal Cert.ReferenceIdeal.Gen
open Idealize.ShloMosaic Idealize.ShloMosaic.TcCoe Idealize.ShloMosaic.StableHlo Idealize.SL.Sem

variable {F : FTy → Type} [FloatOps F]

/-! ## The results as functions of the arguments -/

/-- The squared distances as the reference writes them: squared norms added, less twice the products. -/
def dists (x : FVec F S16384x256 .f32) (a : FVec F S1x1024x256 .f32) : FVec F S16384x1024 .f32 :=
  let p := shapeCast S1024x256 a shapeCasts_S1x1024x256_S1024x256
  let z := constant S_ .f32 0x00000000#32
  subf
    (addf (broadcastInDim S16384x1024 ![0, 1] bcast_S16384x1_S16384x1024_0_1
        (broadcastInDim S16384x1 ![0] bcast_S16384_S16384x1_0 (Host.reduceAdd (mulf x x) z reducesTo_S16384x256_S16384_d1 h_S_)))
      (broadcastInDim S16384x1024 ![0, 1] bcast_S1x1024_S16384x1024_0_1
        (broadcastInDim S1x1024 ![1] bcast_S1024_S1x1024_1 (Host.reduceAdd (mulf p p) z reducesTo_S1024x256_S1024_d1 h_S_))))
    (mulf (broadcastInDim S16384x1024 ![] bcast_S_S16384x1024 (constant S_ .f32 0x40000000#32))
      (Host.dotGeneral dot_S16384x256_S256x1024_S16384x1024_1_0_0_1_n_n none x
        (transpose S256x1024 [1, 0] p transposes_S1024x256_S256x1024_1_0)))

/-- The index of the least of each row. -/
def least (d : FVec F S16384x1024 .f32) : IVec S16384 32 := fun j =>
  (Host.argReduce reducer_argmin_f32_i32 d (iotaInDim S16384x1024 32 1) (constant S_ .f32 0x7F800000#32) (constantI S_ 32 0#32)
    reducesTo_S16384x1024_S16384_d1 h_S_ j).2

/-- The index as the second half of the reduction's pair. -/
theorem least_eq : @least F _ = fun d j =>
    (Host.argReduce reducer_argmin_f32_i32 d (iotaInDim S16384x1024 32 1) (constant S_ .f32 0x7F800000#32) (constantI S_ 32 0#32)
      reducesTo_S16384x1024_S16384_d1 h_S_ j).2 := by
  delta least
  with_reducible rfl

/-- When the reduction at `j` is the pair `q`, the index is `q`'s second half. -/
theorem least_of (d : FVec F S16384x1024 .f32) (j : S16384.Idx) (q : F .f32 × BitVec 32)
    (h : Host.argReduce reducer_argmin_f32_i32 d (iotaInDim S16384x1024 32 1) (constant S_ .f32 0x7F800000#32)
      (constantI S_ 32 0#32) reducesTo_S16384x1024_S16384_d1 h_S_ j = q) : least d j = q.2 := by
  rw [least_eq, ← h]

/-- The mask: one mark in each row, at the index. -/
def oneHot (i : IVec S16384 32) : IVec S16384x1x1024 1 :=
  shapeCast S16384x1x1024
    (cmpi .eq (broadcastInDim S16384x1024 ![0, 1] bcast_S16384x1_S16384x1024_0_1 (broadcastInDim S16384x1 ![0] bcast_S16384_S16384x1_0 i))
      (broadcastInDim S16384x1024 ![0, 1] bcast_S1x1024_S16384x1024_0_1 (iotaInDim S1x1024 32 1)))
    shapeCasts_S16384x1024_S16384x1x1024

/-- The logits less their greatest. -/
def lowered (l : FVec F S1024 .f32) : FVec F S1024 .f32 :=
  subf l (broadcastInDim S1024 ![0] bcast_S1_S1024_0 (broadcastInDim S1 ![] bcast_S_S1
    (maximumf (constant S_ .f32 0xFF800000#32) (Host.reduce FloatOps.maximumf l (constant S_ .f32 0xFF800000#32) reducesTo_S1024_S_d0 h_S_))))

/-- Their log-softmax. -/
def logSoftmax (l : FVec F S1024 .f32) : FVec F S1024 .f32 :=
  subf (lowered l) (broadcastInDim S1024 ![0] bcast_S1_S1024_0 (Host.log (broadcastInDim S1 ![] bcast_S_S1
    (Host.reduceAdd (Host.exp (lowered l)) (constant S_ .f32 0x00000000#32) reducesTo_S1024_S_d0 h_S_))))

/-- The log-probability less the entry of `p` at the index. -/
def lessAt (q : FVec F S16384x1 .f32) (p : FVec F S1024 .f32) (i : IVec S16384 32) : FVec F S16384x1 .f32 :=
  subf q (shapeCast S16384x1
    (Host.gather gather_S1024_S16384x1_S16384_n_0_n_n_0_1_1 p
      (broadcastInDim S16384x1 ![0] bcast_S16384_S16384x1_0
        (select (cmpi .slt i (broadcastInDim S16384 ![] bcast_S_S16384 (constantI S_ 32 0#32)))
          (addi i (broadcastInDim S16384 ![] bcast_S_S16384 (constantI S_ 32 1024#32))) i)))
    shapeCasts_S16384_S16384x1)

/-! ## The run -/

/-- The operations of `@main` in order. -/
abbrev ops : List (HloOp τ sig (Elt F)) :=
  [ reshape main_arg2 main_v0 (rfl : (.f32 : EltTy) = .f32) shapeCasts_S1x1024x256_S1024x256,
    binary main_arg0 main_arg0 main_v1 mulf,
    nullary main_cst (constant S_ .f32 0x00000000#32),
    binary main_v1 main_cst main_v2 (fun x v => Host.reduceAdd x v reducesTo_S16384x256_S16384_d1 h_S_),
    unary main_v2 main_v3 (broadcastInDim S16384x1 ![0] bcast_S16384_S16384x1_0),
    binary main_v0 main_v0 main_v4 mulf,
    nullary main_cst_0 (constant S_ .f32 0x00000000#32),
    binary main_v4 main_cst_0 main_v5 (fun x v => Host.reduceAdd x v reducesTo_S1024x256_S1024_d1 h_S_),
    unary main_v5 main_v6 (broadcastInDim S1x1024 ![1] bcast_S1024_S1x1024_1),
    unary main_v0 main_v7 (transpose S256x1024 [1, 0] · transposes_S1024x256_S256x1024_1_0),
    binary main_arg0 main_v7 main_v8 (fun l r => Host.dotGeneral dot_S16384x256_S256x1024_S16384x1024_1_0_0_1_n_n none l r),
    unary main_v3 main_v9 (broadcastInDim S16384x1024 ![0, 1] bcast_S16384x1_S16384x1024_0_1),
    unary main_v6 main_v10 (broadcastInDim S16384x1024 ![0, 1] bcast_S1x1024_S16384x1024_0_1),
    binary main_v9 main_v10 main_v11 addf,
    nullary main_cst_1 (constant S_ .f32 0x40000000#32),
    unary main_cst_1 main_v12 (broadcastInDim S16384x1024 ![] bcast_S_S16384x1024),
    binary main_v12 main_v8 main_v13 mulf,
    binary main_v11 main_v13 main_v14 subf,
    nullary main_call0_v0 (iotaInDim S16384x1024 32 1),
    nullary main_call0_cst (constant S_ .f32 0x7F800000#32),
    nullary main_call0_c (constantI S_ 32 0#32),
    quaternary main_v14 main_call0_v0 main_call0_cst main_call0_c main_call0_v1_0 (fun x y u v j => (Host.argReduce reducer_argmin_f32_i32 x y u v reducesTo_S16384x1024_S16384_d1 h_S_ j).1),
    quaternary main_v14 main_call0_v0 main_call0_cst main_call0_c main_v15 (fun x y u v j => (Host.argReduce reducer_argmin_f32_i32 x y u v reducesTo_S16384x1024_S16384_d1 h_S_ j).2),
    unary main_v15 main_call1_v0 (broadcastInDim S16384x1 ![0] bcast_S16384_S16384x1_0),
    nullary main_call1_v1 (iotaInDim S1x1024 32 1),
    unary main_call1_v0 main_call1_v2 (broadcastInDim S16384x1024 ![0, 1] bcast_S16384x1_S16384x1024_0_1),
    unary main_call1_v1 main_call1_v3 (broadcastInDim S16384x1024 ![0, 1] bcast_S1x1024_S16384x1024_0_1),
    binary main_call1_v2 main_call1_v3 main_v16 (cmpi .eq),
    reshape main_v16 main_v17 (rfl : (.i1 : EltTy) = .i1) shapeCasts_S16384x1024_S16384x1x1024,
    nullary main_call2_cst (constant S_ .f32 0xFF800000#32),
    binary main_arg3 main_call2_cst main_call2_v0 (fun x v => Host.reduce FloatOps.maximumf x v reducesTo_S1024_S_d0 h_S_),
    nullary main_call2_cst_0 (constant S_ .f32 0xFF800000#32),
    binary main_call2_cst_0 main_call2_v0 main_call2_v1 maximumf,
    unary main_call2_v1 main_call2_v2 (broadcastInDim S1 ![] bcast_S_S1),
    unary main_call2_v2 main_call2_v3 (broadcastInDim S1024 ![0] bcast_S1_S1024_0),
    binary main_arg3 main_call2_v3 main_call2_v4 subf,
    unary main_call2_v4 main_call2_v5 Host.exp,
    nullary main_call2_cst_1 (constant S_ .f32 0x00000000#32),
    binary main_call2_v5 main_call2_cst_1 main_call2_v6 (fun x v => Host.reduceAdd x v reducesTo_S1024_S_d0 h_S_),
    unary main_call2_v6 main_call2_v7 (broadcastInDim S1 ![] bcast_S_S1),
    unary main_call2_v7 main_call2_v8 Host.log,
    unary main_call2_v8 main_call2_v9 (broadcastInDim S1024 ![0] bcast_S1_S1024_0),
    binary main_call2_v4 main_call2_v9 main_v18 subf,
    nullary main_c (constantI S_ 32 0#32),
    unary main_c main_v19 (broadcastInDim S16384 ![] bcast_S_S16384),
    binary main_v15 main_v19 main_v20 (cmpi .slt),
    nullary main_c_2 (constantI S_ 32 1024#32),
    unary main_c_2 main_v21 (broadcastInDim S16384 ![] bcast_S_S16384),
    binary main_v15 main_v21 main_v22 addi,
    ternary main_v20 main_v22 main_v15 main_v23 select,
    unary main_v23 main_v24 (broadcastInDim S16384x1 ![0] bcast_S16384_S16384x1_0),
    binary main_v18 main_v24 main_v25 (fun x i => Host.gather gather_S1024_S16384x1_S16384_n_0_n_n_0_1_1 x i),
    reshape main_v25 main_v26 (rfl : (.f32 : EltTy) = .f32) shapeCasts_S16384_S16384x1,
    binary main_arg1 main_v26 main_v27 subf ]

/-- `@main` is that straight line. -/
theorem main_eq (c : Dev nD) : main (F := F) c = seq ops := by chain_rfl

/-- The program has no scoped buffer -/
theorem scopedRefs_eq : (Finset.univ.filter fun b : Ref sig .tc => b.isScoped) = ∅ := by decide
/-- and no scoped counter. -/
theorem scopedSems_eq : (Finset.univ.filter fun sm : SemLoc sig => sm.isScoped .tc) = ∅ := by decide

/-- Every operation touches the program's own references only. -/
theorem ops_sub : (ops : List (HloOp τ sig (Elt F))).Forall fun op => op.bufs ⊆ tcRefs τ sig :=
  ⟨reshape_bufs_sub .., binary_bufs_sub .., nullary_bufs_sub .., binary_bufs_sub .., unary_bufs_sub ..,
    binary_bufs_sub .., nullary_bufs_sub .., binary_bufs_sub .., unary_bufs_sub .., unary_bufs_sub ..,
    binary_bufs_sub .., unary_bufs_sub .., unary_bufs_sub .., binary_bufs_sub .., nullary_bufs_sub ..,
    unary_bufs_sub .., binary_bufs_sub .., binary_bufs_sub .., nullary_bufs_sub .., nullary_bufs_sub ..,
    nullary_bufs_sub .., quaternary_bufs_sub .., quaternary_bufs_sub .., unary_bufs_sub .., nullary_bufs_sub ..,
    unary_bufs_sub .., unary_bufs_sub .., binary_bufs_sub .., reshape_bufs_sub .., nullary_bufs_sub ..,
    binary_bufs_sub .., nullary_bufs_sub .., binary_bufs_sub .., unary_bufs_sub .., unary_bufs_sub ..,
    binary_bufs_sub .., unary_bufs_sub .., nullary_bufs_sub .., binary_bufs_sub .., unary_bufs_sub ..,
    unary_bufs_sub .., unary_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., reshape_bufs_sub .., binary_bufs_sub ..⟩

/-- The operations leave the mask at the least distance's index; -/
theorem mask_eq (V : Valuation τ sig (Elt F)) :
    after ops V (main_v17 : DevRef τ sig) = oneHot (least (dists (V (main_arg0 : DevRef τ sig)) (V (main_arg2 : DevRef τ sig)))) := by
  after_results
  rfl

/-- the log-probability less the log-softmax there; -/
theorem logp_eq (V : Valuation τ sig (Elt F)) :
    after ops V (main_v27 : DevRef τ sig) = lessAt (V (main_arg1 : DevRef τ sig)) (logSoftmax (V (main_arg3 : DevRef τ sig)))
      (least (dists (V (main_arg0 : DevRef τ sig)) (V (main_arg2 : DevRef τ sig)))) := by
  after_results
  rfl

/-- and the arguments as they were. -/
theorem arg0_eq (V : Valuation τ sig (Elt F)) : after ops V (main_arg0 : DevRef τ sig) = V (main_arg0 : DevRef τ sig) := by after_results
/-- (the second, -/
theorem arg1_eq (V : Valuation τ sig (Elt F)) : after ops V (main_arg1 : DevRef τ sig) = V (main_arg1 : DevRef τ sig) := by after_results
/-- the third -/
theorem arg2_eq (V : Valuation τ sig (Elt F)) : after ops V (main_arg2 : DevRef τ sig) = V (main_arg2 : DevRef τ sig) := by after_results
/-- and the fourth). -/
theorem arg3_eq (V : Valuation τ sig (Elt F)) : after ops V (main_arg3 : DevRef τ sig) = V (main_arg3 : DevRef τ sig) := by after_results

/-- The run: from any memory with zero counters the reference ends with its two results at these functions of the
    arguments, the arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v27) = lessAt (m ((c.tc : Thread nD τ).loc main_arg1)) (logSoftmax (m ((c.tc : Thread nD τ).loc main_arg3)))
            (least (dists (m ((c.tc : Thread nD τ).loc main_arg0)) (m ((c.tc : Thread nD τ).loc main_arg2))))
        ∧ r.2.mem ((c.tc : Thread nD τ).loc main_v17) = oneHot (least (dists (m ((c.tc : Thread nD τ).loc main_arg0)) (m ((c.tc : Thread nD τ).loc main_arg2))))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v27).trans (logp_eq _), (h c main_v17).trans (mask_eq _),
      (h c main_arg0).trans (arg0_eq _), (h c main_arg1).trans (arg1_eq _), (h c main_arg2).trans (arg2_eq _),
      (h c main_arg3).trans (arg3_eq _)⟩)
    (run_seq scopedRefs_eq scopedSems_eq defs main (fun _ => ops) main_eq (fun _ => ops_sub) m ρ)

end Cert.ReferenceIdeal.Vq
-- ==== Proof.RefAt.lean ====
module

public import proofs.«01_k».proof.Proof.Reference
public import proofs.«01_k».proof.Proof.Plain
public import Idealize.ShloMosaic.Lib.ValueIdx
public import Idealize.ShloMosaic.Lib.ValueLayout
public import Idealize.ShloMosaic.Lib.IdealHost
public import Idealize.ShloMosaic.Lib.KernelVsHost
public import Idealize.ShloMosaic.Lib.WordCmp
public import Idealize.ShloMosaic.Lib.Pipeline.Value

/-! The reference's results at an index, over the extended reals: the distances, the index of the first least of each
row, the mask with one mark in each row, the log-softmax of the logits, and the log-probability less its entry. -/

@[expose] public section

set_option maxRecDepth 16384

noncomputable section

open scoped BigOperators

namespace Cert.ReferenceIdeal.Vq

open Idealize.ShloMosaic Idealize.ShloMosaic.ValueIdx
open Cert.ReferenceIdeal Cert.ReferenceIdeal.Gen Cert.Vq

/-- The word of two; -/
theorem two : Ideal.ofBits .f32 0x40000000#32 = 2 := by
  simp only [Ideal.ofBits, Ideal.ieee]
  simp
  rw [← EReal.coe_mul, show (8388608 * (2 ^ 22)⁻¹ : ℝ) = 2 by norm_num]; rfl
/-- of plus infinity; -/
theorem posInf : Ideal.ofBits .f32 0x7F800000#32 = ⊤ := by simp [Ideal.ofBits, Ideal.ieee]
/-- of minus infinity. -/
theorem negInf : Ideal.ofBits .f32 0xFF800000#32 = ⊥ := by simp [Ideal.ofBits, Ideal.ieee]

/-! ## Layouts at an index -/

/-- A column spread over the lanes reads its row; -/
theorem col_apply {α : Type} (x : S16384.Idx → α) (r : Fin 16384) (k : Fin 1024) :
    broadcastInDim S16384x1024 ![0, 1] bcast_S16384x1_S16384x1024_0_1 (broadcastInDim S16384x1 ![0] bcast_S16384_S16384x1_0 x) (ix2 r k)
      = x (ix1 r) := by
  refine (broadcastInDim_apply _ _ _ _ (ix2 r (0 : Fin 1)) ?_).trans (broadcastInDim_apply _ _ _ _ (ix1 r) ?_)
  · intro a; fin_cases a <;> rfl
  · intro a; fin_cases a; rfl

/-- a vector as a column reads its row; -/
theorem one_apply {α : Type} (x : S16384.Idx → α) (r : Fin 16384) :
    broadcastInDim S16384x1 ![0] bcast_S16384_S16384x1_0 x (ix2 r (0 : Fin 1)) = x (ix1 r) := by
  refine broadcastInDim_apply _ _ _ _ (ix1 r) ?_
  intro a; fin_cases a; rfl

/-- a row spread over the rows reads its lane; -/
theorem row_apply {α : Type} (x : S1x1024.Idx → α) (r : Fin 16384) (k : Fin 1024) :
    broadcastInDim S16384x1024 ![0, 1] bcast_S1x1024_S16384x1024_0_1 x (ix2 r k) = x (ix2 (0 : Fin 1) k) := by
  refine broadcastInDim_apply _ _ _ _ (ix2 (0 : Fin 1) k) ?_
  intro a; fin_cases a <;> rfl

/-- a vector as a row reads its lane; -/
theorem lane_apply {α : Type} (x : S1024.Idx → α) (k : Fin 1024) :
    broadcastInDim S1x1024 ![1] bcast_S1024_S1x1024_1 x (ix2 (0 : Fin 1) k) = x (ix1 k) := by
  refine broadcastInDim_apply _ _ _ _ (ix1 k) ?_
  intro a; fin_cases a; rfl

/-- the anchors as a matrix read the anchors; -/
theorem anchors_apply {α : Type} (x : S1x1024x256.Idx → α) (k : Fin 1024) (d : Fin 256) :
    shapeCast S1024x256 x shapeCasts_S1x1024x256_S1024x256 (ix2 k d) = x (ix3 (0 : Fin 1) k d) :=
  shapeCast_apply _ _ _ _ (by
    rw [Shape.rowMajor_val_two, Shape.rowMajor_val_three]; show (0 * 1024 + k.val) * 256 + d.val = k.val * 256 + d.val; omega)

/-- the transposed matrix reads the other way round. -/
theorem turned_apply {α : Type} (x : S1024x256.Idx → α) (k : Fin 1024) (d : Fin 256) :
    transpose S256x1024 [1, 0] x transposes_S1024x256_S256x1024_1_0 (ix2 d k) = x (ix2 k d) := by
  refine transpose_apply _ _ _ _ (ix2 k d) ?_
  intro b; fin_cases b <;> rfl

/-! ## The distances -/

/-- The points sum along their lanes, -/
theorem reduces_x : Shape.Reduces S16384x256 [1] S16384 := by decide
/-- and so do the anchors. -/
theorem reduces_a : Shape.Reduces S1024x256 [1] S1024 := by decide

/-- The squared norm of a point; -/
theorem sq_x (x : FVec Ideal S16384x256 .f32) (r : Fin 16384) :
    Host.reduceAdd (mulf x x) (constant S_ .f32 0x00000000#32) reducesTo_S16384x256_S16384_d1 h_S_ (ix1 r)
      = ∑ d : Fin 256, x (ix2 r d) * x (ix2 r d) := by
  refine (Ideal.hostReduceAdd_single reducesTo_S16384x256_S16384_d1 reduces_x _ _ _).trans ?_
  show Ideal.ofBits .f32 0x00000000#32 + _ = _
  rw [Ideal.ofBits_zero_f32, zero_add]
  refine Finset.sum_congr rfl fun d _ => congrArg (fun i => x i * x i) ?_
  funext c; fin_cases c <;> rfl

/-- of an anchor; -/
theorem sq_a (p : FVec Ideal S1024x256 .f32) (k : Fin 1024) :
    Host.reduceAdd (mulf p p) (constant S_ .f32 0x00000000#32) reducesTo_S1024x256_S1024_d1 h_S_ (ix1 k)
      = ∑ d : Fin 256, p (ix2 k d) * p (ix2 k d) := by
  refine (Ideal.hostReduceAdd_single reducesTo_S1024x256_S1024_d1 reduces_a _ _ _).trans ?_
  show Ideal.ofBits .f32 0x00000000#32 + _ = _
  rw [Ideal.ofBits_zero_f32, zero_add]
  refine Finset.sum_congr rfl fun d _ => congrArg (fun i => p i * p i) ?_
  funext c; fin_cases c <;> rfl

/-- and the product of a point and an anchor. -/
theorem prod_apply (x : FVec Ideal S16384x256 .f32) (p : FVec Ideal S1024x256 .f32) (r : Fin 16384) (k : Fin 1024) :
    Host.dotGeneral (φ₁ := .f32) (φ₂ := .f32) dot_S16384x256_S256x1024_S16384x1024_1_0_0_1_n_n none x
      (transpose S256x1024 [1, 0] p transposes_S1024x256_S256x1024_1_0) (ix2 r k)
      = ∑ d : Fin 256, x (ix2 r d) * p (ix2 k d) := by
  refine (Ideal.dotGeneral_apply dot_S16384x256_S256x1024_S16384x1024_1_0_0_1_n_n none _ x _ (ix2 r k)).trans ?_
  refine Fintype.sum_equiv (contrEquiv1 dot_S16384x256_S256x1024_S16384x1024_1_0_0_1_n_n 256 rfl rfl) _ _ fun q => ?_
  refine congrArg₂ (fun a b : EReal => a * b) (congrArg x ?_) ?_
  · funext c; fin_cases c <;> rfl
  · refine Eq.trans (congrArg (transpose S256x1024 [1, 0] p transposes_S1024x256_S256x1024_1_0) ?_) (turned_apply p k _)
    funext c; fin_cases c <;> rfl

/-- The distances at an index. -/
theorem dists_apply (x : FVec Ideal S16384x256 .f32) (a : FVec Ideal S1x1024x256 .f32) (r : Fin 16384) (k : Fin 1024) :
    dists x a (ix2 r k) = Cert.Vq.dist (fun d : Fin 256 => (x (ix2 r d) : EReal)) (fun d : Fin 256 => (a (ix3 (0 : Fin 1) k d) : EReal)) := by
  unfold dists Cert.Vq.dist
  dsimp only
  refine congrArg₂ (fun u v : EReal => u - v) (congrArg₂ (fun u v : EReal => u + v) ?_ ?_) (congrArg₂ (fun u v : EReal => u * v) ?_ ?_)
  · exact (col_apply _ r k).trans (sq_x x r)
  · refine ((row_apply _ r k).trans (lane_apply _ k)).trans ((sq_a _ k).trans ?_)
    exact Finset.sum_congr rfl fun d _ => congrArg (fun z : EReal => z * z) (anchors_apply a k d)
  · exact (broadcastInDim_scalar_apply _ _ _).trans two
  · refine (prod_apply x _ r k).trans ?_
    exact Finset.sum_congr rfl fun d _ => congrArg (fun z : EReal => x (ix2 r d) * z) (anchors_apply a k d)

/-! ## The index of the least -/

/-- The word of a lane reads, signed, as that lane. -/
theorem toInt_ofNat (j : Fin 1024) : (BitVec.ofNat 32 j.val).toInt = (j.val : ℤ) := by
  have := j.isLt
  rw [BitVec.toInt_eq_toNat_of_lt (by rw [BitVec.toNat_ofNat, Nat.mod_eq_of_lt (by omega)]; omega), BitVec.toNat_ofNat,
    Nat.mod_eq_of_lt (by omega)]

/-- Of two pairs of a value and an index the first comes no later: its value is less, or equal with no larger index. -/
def NoLater (a b : Ideal .f32 × BitVec 32) : Prop :=
  (a.1 : EReal) < b.1 ∨ (a.1 : EReal) = b.1 ∧ a.2.toInt ≤ b.2.toInt

/-- That order is transitive. -/
theorem noLater_trans (a b c : Ideal .f32 × BitVec 32) : NoLater a b → NoLater b c → NoLater a c := by
  rintro (h | ⟨h, h'⟩) (g | ⟨g, g'⟩)
  · exact .inl (h.trans g)
  · exact .inl (g ▸ h)
  · exact .inl (h ▸ g)
  · exact .inr ⟨h.trans g, h'.trans g'⟩

/-- Selecting by the words of three conditions. -/
theorem pick {α β : Type} (P Q R : Prop) [Decidable P] [Decidable Q] [Decidable R] (x y : α) (i j : β) :
    (Scalar.select (IntOp.ori (if P then 1#1 else 0#1) 0#1) x y,
      Scalar.select (IntOp.ori (IntOp.ori (if P then 1#1 else 0#1) 0#1) (IntOp.andi (if Q then 1#1 else 0#1) (if R then 1#1 else 0#1))) i j)
      = (if P then x else y, if P ∨ Q ∧ R then i else j) := by
  by_cases hP : P <;> by_cases hQ : Q <;> by_cases hR : R <;>
    simp only [hP, hQ, hR, if_true, if_false, true_or, false_or, or_true, or_false, and_true, and_false, true_and, false_and] <;> rfl

/-- The reference's reducer returns the one of its two pairs that comes no later. -/
theorem reducer_select (a b : Ideal .f32 × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  have key : reducer_argmin_f32_i32 (F := Ideal) a b
      = (if (a.1 : EReal) < b.1 then a.1 else b.1, if (a.1 : EReal) < b.1 ∨ a.1 = b.1 ∧ a.2.toInt < b.2.toInt then a.2 else b.2) := by
    have e1 : (FloatOps.cmpf (F := Ideal) .olt a.1 b.1 : BitVec 1) = if (a.1 : EReal) < b.1 then 1#1 else 0#1 := WordCmp.ofBool_decide_eq_ite _
    have e2 : (FloatOps.cmpf (F := Ideal) .une a.1 a.1 : BitVec 1) = 0#1 := by
      show BitVec.ofBool (decide _) = _
      rw [WordCmp.ofBool_decide_eq_ite, if_neg (fun h => h rfl)]
    have e3 : (FloatOps.cmpf (F := Ideal) .oeq a.1 b.1 : BitVec 1) = if a.1 = b.1 then 1#1 else 0#1 := WordCmp.ofBool_decide_eq_ite _
    have e4 : IntOp.cmpi .slt a.2 b.2 = if a.2.toInt < b.2.toInt then 1#1 else 0#1 := by
      rw [WordCmp.cmpi_slt_eq, WordCmp.ofBool_decide_eq_ite]
    show (Scalar.select (IntOp.ori (FloatOps.cmpf (F := Ideal) .olt a.1 b.1) (FloatOps.cmpf (F := Ideal) .une a.1 a.1)) a.1 b.1,
      Scalar.select (IntOp.ori (IntOp.ori (FloatOps.cmpf (F := Ideal) .olt a.1 b.1) (FloatOps.cmpf (F := Ideal) .une a.1 a.1))
        (IntOp.andi (FloatOps.cmpf (F := Ideal) .oeq a.1 b.1) (IntOp.cmpi .slt a.2 b.2))) a.2 b.2) = _
    rw [e1, e2, e3, e4]
    exact pick _ _ _ _ _ _ _
  rw [key]
  obtain ⟨a1, a2⟩ := a
  obtain ⟨b1, b2⟩ := b
  dsimp only
  rcases lt_trichotomy a1 b1 with h | h | h
  · rw [if_pos h, if_pos (.inl h)]
    exact ⟨.inl rfl, .inr ⟨rfl, le_rfl⟩, .inl h⟩
  · subst h
    rw [if_neg (lt_irrefl a1)]
    by_cases h3 : a2.toInt < b2.toInt
    · rw [if_pos (.inr ⟨rfl, h3⟩)]
      exact ⟨.inl rfl, .inr ⟨rfl, le_rfl⟩, .inr ⟨rfl, h3.le⟩⟩
    · rw [if_neg (by rintro (h | ⟨_, h⟩); exacts [lt_irrefl _ h, h3 h])]
      exact ⟨.inr rfl, .inr ⟨rfl, not_lt.1 h3⟩, .inr ⟨rfl, le_rfl⟩⟩
  · rw [if_neg (not_lt.2 h.le), if_neg (by rintro (g | ⟨g, _⟩); exacts [lt_asymm h g, h.ne' g])]
    exact ⟨.inr rfl, .inl h, .inr ⟨rfl, le_rfl⟩⟩

/-- Selecting over a list of a row's entries with their indices, from infinity at index zero, ends at the index of the
    row's first least entry. -/
theorem select_row (f : Fin 1024 → EReal) (k0 : Fin 1024) (h0 : FirstLeast f k0) (l : List (Ideal .f32 × BitVec 32))
    (hmem : ∀ p : Ideal .f32 × BitVec 32, p ∈ l ↔ ∃ k : Fin 1024, p = (f k, BitVec.ofNat 32 k.val)) :
    (l.foldl (reducer_argmin_f32_i32 (F := Ideal)) ((⊤ : EReal), 0#32)).2 = BitVec.ofNat 32 k0.val := by
  have hf := foldl_select (reducer_argmin_f32_i32 (F := Ideal)) NoLater (fun a => .inr ⟨rfl, le_rfl⟩) noLater_trans reducer_select
    l ((⊤ : EReal), 0#32)
  generalize l.foldl (reducer_argmin_f32_i32 (F := Ideal)) ((⊤ : EReal), 0#32) = p at hf ⊢
  obtain ⟨h1, -, h3⟩ := hf
  -- an index of the row whose word is the result's
  have hfin : ∀ k : Fin 1024, f k = p.1 → p.2 = BitVec.ofNat 32 k.val → p.2 = BitVec.ofNat 32 k0.val := by
    intro k hv hi
    have hle : k0 = k := by
      refine h0.unique ⟨fun j => ?_, fun j hj => ?_⟩
      · rw [hv]
        rcases h3 _ ((hmem _).2 ⟨j, rfl⟩) with h | ⟨h, _⟩
        · exact le_of_lt h
        · exact le_of_eq h
      · rw [hv]
        rcases h3 _ ((hmem _).2 ⟨j, rfl⟩) with h | ⟨h, h'⟩
        · exact h
        · rw [hi, toInt_ofNat] at h'
          dsimp only at h'
          rw [toInt_ofNat] at h'
          have := Fin.lt_def.1 hj
          omega
    rw [hi, hle]
  rcases h1 with h1 | h1
  · have e1 : p.1 = (⊤ : EReal) := congrArg Prod.fst h1
    have e2 : p.2 = 0#32 := congrArg Prod.snd h1
    refine hfin 0 ?_ e2
    rcases h3 _ ((hmem _).2 ⟨0, rfl⟩) with h | ⟨h, _⟩
    · rw [e1] at h; exact absurd h not_top_lt
    · exact h.symm
  · obtain ⟨k, hk⟩ := (hmem _).1 h1
    exact hfin k (congrArg Prod.fst hk).symm (congrArg Prod.snd hk)

/-- The entries the reference folds over for a row are the row's, with their indices. -/
theorem mem_fiber (d : FVec Ideal S16384x1024 .f32) (r : Fin 16384) (p : Ideal .f32 × BitVec 32) :
    p ∈ Host.argReduceFiber d (iotaInDim S16384x1024 32 1) reducesTo_S16384x1024_S16384_d1 (ix1 r)
      ↔ ∃ k : Fin 1024, p = (d (ix2 r k), BitVec.ofNat 32 k.val) := by
  have hdrop : ∀ i : S16384x1024.Idx, ((reducesTo_S16384x1024_S16384_d1.drop i) 0).val = (i 0).val := fun i =>
    reducesTo_S16384x1024_S16384_d1.drop_apply_val_of_eq i 0 0
  unfold Host.argReduceFiber
  rw [List.mem_map]
  constructor
  · rintro ⟨n, hn, rfl⟩
    have hd := of_decide_eq_true (List.mem_filter.1 hn).2
    generalize S16384x1024.rowMajor.symm n = i at hd ⊢
    have hr : (i 0).val = r.val := by rw [← hdrop i, hd]
    have he : i = ix2 r (i 1) := by
      funext b
      fin_cases b
      · exact Fin.ext hr
      · rfl
    refine ⟨i 1, Prod.ext (congrArg d he) ?_⟩
    exact iotaInDim_apply 32 1 i
  · rintro ⟨k, rfl⟩
    refine ⟨S16384x1024.rowMajor (ix2 r k), List.mem_filter.2 ⟨List.mem_finRange _, decide_eq_true ?_⟩, ?_⟩
    · rw [Equiv.symm_apply_apply]
      funext b
      fin_cases b
      exact Fin.ext (hdrop (ix2 r k))
    · rw [Equiv.symm_apply_apply]
      exact Prod.ext rfl (iotaInDim_apply 32 1 (ix2 r k))

/-- The index the reference takes of a row is that of the first least entry. -/
theorem least_apply (d : FVec Ideal S16384x1024 .f32) (r : Fin 16384) (k0 : Fin 1024)
    (h0 : FirstLeast (fun k : Fin 1024 => (d (ix2 r k) : EReal)) k0) : least d (ix1 r) = BitVec.ofNat 32 k0.val := by
  have hi : (constant S_ .f32 0x7F800000#32 : FVec Ideal S_ .f32) (Shape.Idx.first h_S_) = (⊤ : EReal) := posInf
  have hc : (constantI S_ 32 0#32 : IVec S_ 32) (Shape.Idx.first h_S_) = 0#32 := rfl
  have e1 := congrFun (Ideal.argReduce_eq_reduce2 (reducer_argmin_f32_i32 (F := Ideal)) d (iotaInDim S16384x1024 32 1)
    (constant S_ .f32 0x7F800000#32) (constantI S_ 32 0#32) reducesTo_S16384x1024_S16384_d1 h_S_) (ix1 r)
  have e2 := Host.reduce2_eq_foldl_fiber (reducer_argmin_f32_i32 (F := Ideal)) d (iotaInDim S16384x1024 32 1)
    (constant S_ .f32 0x7F800000#32) (constantI S_ 32 0#32) reducesTo_S16384x1024_S16384_d1 h_S_ (ix1 r)
  rw [hi, hc] at e2
  exact (least_of d (ix1 r) _ (e1.trans e2)).trans
    (select_row (fun k : Fin 1024 => (d (ix2 r k) : EReal)) k0 h0 _ (mem_fiber d r))

/-! ## The mask -/

/-- The mask at an index. -/
theorem oneHot_apply (i : IVec S16384 32) (r : Fin 16384) (k0 : Fin 1024) (hi : i (ix1 r) = BitVec.ofNat 32 k0.val) (k : Fin 1024) :
    oneHot i (ix3 r (0 : Fin 1) k) = if k = k0 then 1#1 else 0#1 := by
  unfold oneHot
  refine (shapeCast_apply _ _ _ (ix2 r k) ?_).trans ?_
  · rw [Shape.rowMajor_val_two, Shape.rowMajor_val_three]; show r.val * 1024 + k.val = (r.val * 1 + 0) * 1024 + k.val; omega
  have e : ∀ u v : BitVec 32, u = i (ix1 r) → v = BitVec.ofNat 32 k.val → IntOp.cmpi .eq u v = if k = k0 then 1#1 else 0#1 := by
    rintro u v rfl rfl
    rw [hi, WordCmp.cmpi_eq_eq, WordCmp.ofBool_decide_eq_ite]
    by_cases h : k = k0
    · rw [if_pos h, if_pos (by rw [h])]
    · rw [if_neg h, if_neg]
      intro hc
      have := congrArg BitVec.toInt hc
      rw [toInt_ofNat, toInt_ofNat] at this
      exact h (Fin.ext (by omega))
  exact e _ _ (col_apply i r k) ((row_apply _ r k).trans rfl)

/-! ## The log-softmax -/

/-- A one-element vector spread over the lanes reads its element. -/
theorem spread_apply {α : Type} (x : S1.Idx → α) (k : Fin 1024) :
    broadcastInDim S1024 ![0] bcast_S1_S1024_0 x (ix1 k) = x (ix1 (0 : Fin 1)) := by
  refine broadcastInDim_apply _ _ _ _ (ix1 (0 : Fin 1)) ?_
  intro a; fin_cases a; rfl

/-- The greatest of the logits. -/
theorem top_apply (l : FVec Ideal S1024 .f32) :
    Host.reduce FloatOps.maximumf l (constant S_ .f32 0xFF800000#32) reducesTo_S1024_S_d0 h_S_ ix0 = ⨆ j : Fin 1024, (l (ix1 j) : EReal) := by
  refine (Host.reduce_eq_fold _ _ _ _ _ _).trans ?_
  show Finset.fold max (Ideal.ofBits .f32 0xFF800000#32) _ _ = _
  rw [negInf]
  refine eq_of_forall_ge_iff fun c => ?_
  rw [Finset.fold_max_le, iSup_le_iff]
  constructor
  · intro h j
    exact h.2 (ix1 j) (Finset.mem_filter.2 ⟨Finset.mem_univ _, funext fun a => a.elim0⟩)
  · intro h
    refine ⟨bot_le, fun i _ => ?_⟩
    rw [eq_ix1 i]
    exact h (i 0)

/-- The logits less their greatest, at an index. -/
theorem lowered_apply (l : FVec Ideal S1024 .f32) (k : Fin 1024) :
    lowered l (ix1 k) = (l (ix1 k) : EReal) - ⨆ j : Fin 1024, (l (ix1 j) : EReal) := by
  unfold lowered
  refine congrArg (fun z : EReal => (l (ix1 k) : EReal) - z) ?_
  refine (spread_apply _ k).trans ((broadcastInDim_scalar_apply _ _ _).trans ?_)
  show max (Ideal.ofBits .f32 0xFF800000#32) _ = _
  rw [negInf, top_apply]
  exact max_eq_right bot_le

/-- The sum of all the lanes. -/
theorem total_apply (l : FVec Ideal S1024 .f32) :
    Host.reduceAdd l (constant S_ .f32 0x00000000#32) reducesTo_S1024_S_d0 h_S_ ix0 = ∑ j : Fin 1024, (l (ix1 j) : EReal) := by
  refine (Ideal.hostReduceAdd_total reducesTo_S1024_S_d0 (fun b => b.elim0) _ _ _).trans ?_
  show Ideal.ofBits .f32 0x00000000#32 + _ = _
  rw [Ideal.ofBits_zero_f32, zero_add]
  symm
  refine Fintype.sum_bijective (fun k : Fin 1024 => (ix1 k : S1024.Idx)) ⟨?_, ?_⟩ _ _ fun k => rfl
  · intro p q h; exact congrFun h 0
  · intro i; exact ⟨i 0, (eq_ix1 i).symm⟩

/-- The log-softmax at an index. -/
theorem logSoftmax_apply (l : FVec Ideal S1024 .f32) (k : Fin 1024) :
    logSoftmax l (ix1 k) = logSoft (fun j : Fin 1024 => (l (ix1 j) : EReal)) k := by
  unfold logSoftmax logSoft
  refine congrArg₂ (fun u v : EReal => u - v) (lowered_apply l k) ?_
  refine (spread_apply _ k).trans ?_
  refine congrArg Ideal.log ?_
  refine (broadcastInDim_scalar_apply _ _ _).trans ((total_apply _).trans ?_)
  exact Finset.sum_congr rfl fun j _ => congrArg Ideal.exp (lowered_apply l j)

/-! ## The log-probability -/

/-- Entries taken at indices in range. -/
theorem taken_apply {α : Type} (p : S1024.Idx → α) (i : IVec S16384x1 32) (r : Fin 16384) (k0 : Fin 1024)
    (hi : i (ix2 r (0 : Fin 1)) = BitVec.ofNat 32 k0.val) :
    Host.gather gather_S1024_S16384x1_S16384_n_0_n_n_0_1_1 p i (ix1 r) = p (ix1 k0) := by
  unfold Host.gather
  congr 1
  funext a
  obtain rfl : a = 0 := Subsingleton.elim (α := Fin 1) _ _
  refine Fin.ext ?_
  show gather_S1024_S16384x1_S16384_n_0_n_n_0_1_1.start (ix1 r) i 0 + gather_S1024_S16384x1_S16384_n_0_n_n_0_1_1.batchCoord (ix1 r) 0
    + gather_S1024_S16384x1_S16384_n_0_n_n_0_1_1.offCoord (ix1 r) 0 = k0.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S1024_S16384x1_S16384_n_0_n_n_0_1_1.startIndexMap from List.mem_singleton.mpr rfl)]
  have hsi : gather_S1024_S16384x1_S16384_n_0_n_n_0_1_1.siIdx (ix1 r) ⟨List.idxOf (0 : Fin 1) gather_S1024_S16384x1_S16384_n_0_n_n_0_1_1.startIndexMap,
      List.idxOf_lt_length_iff.2 (List.mem_singleton.mpr rfl)⟩ = ix2 r (0 : Fin 1) := by
    funext b; refine Fin.ext ?_
    fin_cases b <;> rfl
  rw [hsi, hi]
  show min (BitVec.ofNat 32 k0.val).toInt.toNat (1024 - 1) = k0.val
  rw [toInt_ofNat]
  have := k0.isLt
  omega

/-- The log-probability less the entry at the index. -/
theorem lessAt_apply (q : FVec Ideal S16384x1 .f32) (p : FVec Ideal S1024 .f32) (i : IVec S16384 32) (r : Fin 16384) (k0 : Fin 1024)
    (hi : i (ix1 r) = BitVec.ofNat 32 k0.val) :
    lessAt q p i (ix2 r (0 : Fin 1)) = (q (ix2 r (0 : Fin 1)) : EReal) - (p (ix1 k0) : EReal) := by
  unfold lessAt
  refine congrArg (fun z : EReal => (q (ix2 r (0 : Fin 1)) : EReal) - z) ?_
  refine (shapeCast_apply _ _ _ (ix1 r) ?_).trans ?_
  · rw [Shape.rowMajor_val_two, Shape.rowMajor_val_one]; show r.val = r.val * 1 + 0; omega
  refine taken_apply p _ r k0 ((one_apply _ r).trans ?_)
  have e : ∀ u v w : BitVec 32, w = BitVec.ofNat 32 k0.val → u = 0#32 → Scalar.select (IntOp.cmpi .slt w u) v w = BitVec.ofNat 32 k0.val := by
    rintro u v w rfl rfl
    rw [WordCmp.cmpi_slt_eq, WordCmp.ofBool_decide_eq_ite, if_neg, select_zero]
    rw [toInt_ofNat]
    show ¬(k0.val : ℤ) < 0
    omega
  exact e _ _ _ hi (broadcastInDim_scalar_apply _ _ _)

end Cert.ReferenceIdeal.Vq
-- ==== Proof.Agree.lean ====
module

public import proofs.«01_k».proof.Defs
public import proofs.«01_k».proof.Proof.Values
public import proofs.«01_k».proof.Proof.RefAt
public import proofs.«01_k».proof.Proof.Gen.Pre_finite

/-! The kernel's results are the reference's.  Where the points and the anchors are finite the two ways of writing the
squared distance agree, so both programs take the same anchor for each point; the rest is one mask and one subtraction. -/

@[expose] public section

set_option maxRecDepth 16384

noncomputable section

open scoped BigOperators

namespace Cert.Agree

open Idealize.ShloMosaic Idealize.ShloMosaic.TcCoe Idealize.ShloMosaic.ValueIdx Idealize.SL.Sem
open Cert.KernelIdeal Cert.KernelIdeal.Vq Cert.Vq

/-- An extended real whose absolute value is below the top one is finite. -/
theorem finite_of_abs_lt (a : EReal) (h : FloatOps.cmpf (F := Ideal) (φ := .f32) .olt (FloatOps.absf (F := Ideal) (φ := .f32) a)
    (Ideal.ofBits .f32 0x7F800000#32) = 1#1) : a ≠ ⊤ ∧ a ≠ ⊥ := by
  rw [Cert.KernelIdeal.Vq.posInf] at h
  have h' : max a (-a) < (⊤ : EReal) := by
    by_contra hc
    have : FloatOps.cmpf (F := Ideal) (φ := .f32) .olt (FloatOps.absf (F := Ideal) (φ := .f32) a) (⊤ : EReal) = 0#1 := by
      show BitVec.ofBool (decide (max a (-a) < (⊤ : EReal))) = 0#1
      rw [decide_eq_false hc]; rfl
    rw [this] at h
    exact absurd h (by decide)
  refine ⟨?_, ?_⟩
  · rintro rfl; simp at h'
  · rintro rfl; simp at h'

/-- What the precondition says: the points and the anchors are finite. -/
theorem points_finite (m : (ℓ : Loc nD τ sig) → Buf (Elt Ideal) ℓ) (hp : @Cert.Pre_KernelIdeal_finite Cert.Pre_finite.Gen.facts m) (c : Dev nD)
    (i : S16384x256.Idx) : (points m c i : EReal) ≠ ⊤ ∧ (points m c i : EReal) ≠ ⊥ :=
  finite_of_abs_lt _ (congrFun (hp c).1 i)

/-- and the anchors. -/
theorem anchors_finite (m : (ℓ : Loc nD τ sig) → Buf (Elt Ideal) ℓ) (hp : @Cert.Pre_KernelIdeal_finite Cert.Pre_finite.Gen.facts m) (c : Dev nD)
    (i : S1x1024x256.Idx) : (anchors m c i : EReal) ≠ ⊤ ∧ (anchors m c i : EReal) ≠ ⊥ :=
  finite_of_abs_lt _ (congrFun (hp c).2 i)

variable (m : (ℓ : Loc nD τ sig) → Buf (Elt Ideal) ℓ) (hp : @Cert.Pre_KernelIdeal_finite Cert.Pre_finite.Gen.facts m) (c : Dev nD)

include hp in
/-- The kernel's distances are the reference's. -/
theorem nearAt_eq (r : Fin 16384) :
    nearAt m c r = fun k : Fin 1024 => (Cert.ReferenceIdeal.Vq.dists (points m c) (anchors m c) (ix2 r k) : EReal) := by
  funext k
  refine (near_eq_dist _ _ (fun d => points_finite m hp c _) (fun d => anchors_finite m hp c _)).trans ?_
  exact (Cert.ReferenceIdeal.Vq.dists_apply (points m c) (anchors m c) r k).symm

include hp in
/-- The reference takes the same anchor. -/
theorem least_eq (r : Fin 16384) :
    Cert.ReferenceIdeal.Vq.least (Cert.ReferenceIdeal.Vq.dists (points m c) (anchors m c)) (ix1 r)
      = BitVec.ofNat 32 (nearest m c r).val :=
  Cert.ReferenceIdeal.Vq.least_apply _ r _ (nearAt_eq m hp c r ▸ nearest_first m c r)

include hp in
/-- The two masks are one. -/
theorem mask_eq :
    Cert.ReferenceIdeal.Vq.oneHot (Cert.ReferenceIdeal.Vq.least (Cert.ReferenceIdeal.Vq.dists (points m c) (anchors m c)))
      = maskOut m c := by
  funext i
  obtain ⟨r, k, rfl⟩ : ∃ (r : Fin 16384) (k : Fin 1024), i = ix3 r (0 : Fin 1) k :=
    ⟨i 0, i 2, (eq_ix3 i).trans (congrArg (fun a : Fin 1 => ix3 (i 0) a (i 2)) (Subsingleton.elim (α := Fin 1) _ _))⟩
  exact (Cert.ReferenceIdeal.Vq.oneHot_apply _ r _ (least_eq m hp c r) k).trans (maskOut_apply m c r k).symm

include hp in
/-- The two log-probabilities are one. -/
theorem logp_eq :
    Cert.ReferenceIdeal.Vq.lessAt (logps m c) (Cert.ReferenceIdeal.Vq.logSoftmax (logits m c))
        (Cert.ReferenceIdeal.Vq.least (Cert.ReferenceIdeal.Vq.dists (points m c) (anchors m c)))
      = logpOut m c := by
  funext i
  obtain ⟨r, rfl⟩ : ∃ r : Fin 16384, i = ix2 r (0 : Fin 1) :=
    ⟨i 0, (eq_ix2 i).trans (congrArg (fun a : Fin 1 => ix2 (i 0) a) (Subsingleton.elim (α := Fin 1) _ _))⟩
  refine (Cert.ReferenceIdeal.Vq.lessAt_apply _ _ _ r _ (least_eq m hp c r)).trans ?_
  rw [logpOut_apply, Cert.ReferenceIdeal.Vq.logSoftmax_apply]

end Cert.Agree
-- ==== Proof.lean ====
module

public import proofs.«01_k».proof.Defs
public import proofs.«01_k».proof.Proof.Launch
public import proofs.«01_k».proof.Proof.Agree
public import Idealize.ShloMosaic.Adequacy
public import Idealize.ShloMosaic.Init

/-! The five claims.  The frames are the launches' runs and the reference's straight line; the algebraic claim is the
kernel's run and the reference's run, ending with the same arrays. -/

@[expose] public section

noncomputable section

namespace Cert.Proof

open Idealize.ShloMosaic Idealize.ShloMosaic.TcCoe Idealize.SL.Sem

section
variable (m : (ℓ : Loc Cert.ReferenceIdeal.nD Cert.ReferenceIdeal.τ Cert.ReferenceIdeal.sig) → Buf (Elt Ideal) ℓ)
  (ρ : Dev Cert.ReferenceIdeal.nD → PrngReg)

/-- The reference ends with its arguments unchanged and every counter at zero: it has no counters. -/
theorem reference_frame : θ_run Cert.ReferenceIdeal.defs (onTc (τ := Cert.ReferenceIdeal.τ) (Cert.ReferenceIdeal.main (F := Ideal)))
    ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Vq.run_main m ρ)
end

/-- From finite points and anchors the kernel and the reference end with the same results. -/
theorem algebraic : @Cert.algebraic_KernelIdeal_ReferenceIdeal_pre_finite Cert.KernelIdeal.Gen.facts Cert.ReferenceIdeal.Gen.facts
    Cert.Pre_finite.Gen.facts := by
  intro m g m' g' hp hm
  refine ⟨fun c => Cert.KernelIdeal.Vq.points m c, fun c => Cert.KernelIdeal.Vq.logpOut m c, fun c => Cert.KernelIdeal.Vq.maskOut m c, ?_, ?_⟩
  · exact (θ_run Cert.KernelIdeal.defs _ _).mono
      (fun r h c => ⟨(h c).2.2.1, (h c).1, (h c).2.1, (h c).2.2⟩) (Cert.KernelIdeal.Vq.run m g)
  · refine (θ_run Cert.ReferenceIdeal.defs _ _).mono (fun r h c => ?_) (Cert.ReferenceIdeal.Vq.run_main m' g')
    obtain ⟨h27, h17, h0, h1, h2, h3⟩ := h c
    obtain ⟨e0, e1, e2, e3⟩ := hm c
    rw [e0, e1, e2, e3] at h27
    rw [e0, e2] at h17
    exact ⟨h0.trans e0, h27.trans (Cert.Agree.logp_eq m hp c), h17.trans (Cert.Agree.mask_eq m hp c), h0, h1, h2, h3⟩

theorem claim : Cert.Claim := ⟨Cert.Kernel.Gen.facts, Cert.KernelIdeal.Gen.facts, Cert.ReferenceIdeal.Gen.facts, Cert.Pre_finite.Gen.facts,
  fun m g _ => Cert.Kernel.Vq.frame m g, fun m g _ => Cert.KernelIdeal.Vq.frame m g, fun m g _ => Cert.KernelIdeal.Vq.frame m g,
  fun m g _ => reference_frame m g, fun m g _ => reference_frame m g, trivial, algebraic⟩

end Cert.Proof

end
